-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![8192, 512]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 512]⟩ ⟨2, ![8192, 512]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2_3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S1x512 : Shape := ⟨2, ![1, 512]⟩
abbrev S8x512 : Shape := ⟨2, ![8, 512]⟩
abbrev S8 : Shape := ⟨1, ![8]⟩
abbrev S1 : Shape := ⟨1, ![1]⟩
abbrev S_ : Shape := ⟨0, ![]⟩
abbrev S512x512 : Shape := ⟨2, ![512, 512]⟩
abbrev S256x512 : Shape := ⟨2, ![256, 512]⟩
abbrev S128x512 : Shape := ⟨2, ![128, 512]⟩
abbrev S64x512 : Shape := ⟨2, ![64, 512]⟩
abbrev S32x512 : Shape := ⟨2, ![32, 512]⟩
abbrev S16x512 : Shape := ⟨2, ![16, 512]⟩
abbrev S4x512 : Shape := ⟨2, ![4, 512]⟩
abbrev S2x512 : Shape := ⟨2, ![2, 512]⟩
abbrev S1023x512 : Shape := ⟨2, ![1023, 512]⟩
abbrev S1022x512 : Shape := ⟨2, ![1022, 512]⟩
abbrev S1020x512 : Shape := ⟨2, ![1020, 512]⟩
abbrev S1016x512 : Shape := ⟨2, ![1016, 512]⟩
abbrev S1008x512 : Shape := ⟨2, ![1008, 512]⟩
abbrev S992x512 : Shape := ⟨2, ![992, 512]⟩
abbrev S960x512 : Shape := ⟨2, ![960, 512]⟩
abbrev S896x512 : Shape := ⟨2, ![896, 512]⟩
abbrev S768x512 : Shape := ⟨2, ![768, 512]⟩
abbrev S8x1 : Shape := ⟨2, ![8, 1]⟩

abbrev nBuf : Space → Nat
  | .hbm => 2
  | .vmem => 4
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .local _ .vmem, ⟨0, _⟩ => ⟨S1024x512, .f32⟩
  | .local _ .vmem, ⟨1, _⟩ => ⟨S1024x512, .f32⟩
  | .local _ .vmem, ⟨2, _⟩ => ⟨S1x512, .f32⟩
  | .local _ .vmem, ⟨3, _⟩ => ⟨S8x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 8 18 bufScoped semScoped dmaSemScoped tileCredit tileCredit_eq_zero tileCredit_pos

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1

abbrev nD : Nat := 8
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v3 : BitVec 1 := Scalar.cmpi .sgt v2 c0_i32
  let v4 : BitVec 32 := Scalar.extui v3
  let c0_i32_0 : BitVec 32 := 0#32
  let v5 : BitVec 1 := Scalar.cmpi .ne v4 c0_i32_0
  v5

def k0_off1 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_dev1 : Nat :=
  let c0_i32_113 : BitVec 32 := 0#32
  let c0_i32_111 : BitVec 32 := 0#32
  let c1_i32_112 : BitVec 32 := 1#32
  let v169 : BitVec 32 := Scalar.muli c0_i32_111 c1_i32_112
  let v170 : BitVec 32 := Scalar.addi c0_i32_113 v169
  v170.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 1 := Scalar.cmpi .sgt v2 c1_i32_1
  let v7 : BitVec 32 := Scalar.extui v6
  let c0_i32_2 : BitVec 32 := 0#32
  let v8 : BitVec 1 := Scalar.cmpi .ne v7 c0_i32_2
  v8

def k0_off2 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_dev2 : Nat :=
  let c0_i32_113 : BitVec 32 := 0#32
  let c1_i32_111 : BitVec 32 := 1#32
  let c1_i32_112 : BitVec 32 := 1#32
  let v169 : BitVec 32 := Scalar.muli c1_i32_111 c1_i32_112
  let v170 : BitVec 32 := Scalar.addi c0_i32_113 v169
  v170.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 1 := Scalar.cmpi .sgt v2 c2_i32
  let v10 : BitVec 32 := Scalar.extui v9
  let c0_i32_3 : BitVec 32 := 0#32
  let v11 : BitVec 1 := Scalar.cmpi .ne v10 c0_i32_3
  v11

def k0_off3 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_dev3 : Nat :=
  let c0_i32_113 : BitVec 32 := 0#32
  let c2_i32_111 : BitVec 32 := 2#32
  let c1_i32_112 : BitVec 32 := 1#32
  let v169 : BitVec 32 := Scalar.muli c2_i32_111 c1_i32_112
  let v170 : BitVec 32 := Scalar.addi c0_i32_113 v169
  v170.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 1 := Scalar.cmpi .sgt v2 c3_i32
  let v13 : BitVec 32 := Scalar.extui v12
  let c0_i32_4 : BitVec 32 := 0#32
  let v14 : BitVec 1 := Scalar.cmpi .ne v13 c0_i32_4
  v14

def k0_off4 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_dev4 : Nat :=
  let c0_i32_113 : BitVec 32 := 0#32
  let c3_i32_111 : BitVec 32 := 3#32
  let c1_i32_112 : BitVec 32 := 1#32
  let v169 : BitVec 32 := Scalar.muli c3_i32_111 c1_i32_112
  let v170 : BitVec 32 := Scalar.addi c0_i32_113 v169
  v170.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v15 : BitVec 1 := Scalar.cmpi .sgt v2 c4_i32
  let v16 : BitVec 32 := Scalar.extui v15
  let c0_i32_5 : BitVec 32 := 0#32
  let v17 : BitVec 1 := Scalar.cmpi .ne v16 c0_i32_5
  v17

def k0_off5 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_dev5 : Nat :=
  let c0_i32_113 : BitVec 32 := 0#32
  let c4_i32_111 : BitVec 32 := 4#32
  let c1_i32_112 : BitVec 32 := 1#32
  let v169 : BitVec 32 := Scalar.muli c4_i32_111 c1_i32_112
  let v170 : BitVec 32 := Scalar.addi c0_i32_113 v169
  v170.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v18 : BitVec 1 := Scalar.cmpi .sgt v2 c5_i32
  let v19 : BitVec 32 := Scalar.extui v18
  let c0_i32_6 : BitVec 32 := 0#32
  let v20 : BitVec 1 := Scalar.cmpi .ne v19 c0_i32_6
  v20

def k0_off6 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_dev6 : Nat :=
  let c0_i32_113 : BitVec 32 := 0#32
  let c5_i32_111 : BitVec 32 := 5#32
  let c1_i32_112 : BitVec 32 := 1#32
  let v169 : BitVec 32 := Scalar.muli c5_i32_111 c1_i32_112
  let v170 : BitVec 32 := Scalar.addi c0_i32_113 v169
  v170.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v21 : BitVec 1 := Scalar.cmpi .sgt v2 c6_i32
  let v22 : BitVec 32 := Scalar.extui v21
  let c0_i32_7 : BitVec 32 := 0#32
  let v23 : BitVec 1 := Scalar.cmpi .ne v22 c0_i32_7
  v23

def k0_off7 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_dev7 : Nat :=
  let c0_i32_113 : BitVec 32 := 0#32
  let c6_i32_111 : BitVec 32 := 6#32
  let c1_i32_112 : BitVec 32 := 1#32
  let v169 : BitVec 32 := Scalar.muli c6_i32_111 c1_i32_112
  let v170 : BitVec 32 := Scalar.addi c0_i32_113 v169
  v170.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v24 : BitVec 1 := Scalar.cmpi .sgt v2 c7_i32
  let v25 : BitVec 32 := Scalar.extui v24
  let c0_i32_8 : BitVec 32 := 0#32
  let v26 : BitVec 1 := Scalar.cmpi .ne v25 c0_i32_8
  v26

def k0_off8 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_dev8 : Nat :=
  let c0_i32_113 : BitVec 32 := 0#32
  let c7_i32_111 : BitVec 32 := 7#32
  let c1_i32_112 : BitVec 32 := 1#32
  let v169 : BitVec 32 := Scalar.muli c7_i32_111 c1_i32_112
  let v170 : BitVec 32 := Scalar.addi c0_i32_113 v169
  v170.toNat
def k0_cond10 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_12 : BitVec 32 := 7#32
  let v32 : BitVec 1 := Scalar.cmpi .slt v2 c7_i32_12
  let v33 : BitVec 32 := Scalar.extui v32
  let c0_i32_14 : BitVec 32 := 0#32
  let v34 : BitVec 1 := Scalar.cmpi .ne v33 c0_i32_14
  v34

def k0_off9 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off10 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_115 : BitVec 32 := 0#32
  ![v2.toNat, 0]
def k0_dev9 : Nat :=
  let c0_i32_114 : BitVec 32 := 0#32
  let c7_i32_112 : BitVec 32 := 7#32
  let c1_i32_113 : BitVec 32 := 1#32
  let v169 : BitVec 32 := Scalar.muli c7_i32_112 c1_i32_113
  let v170 : BitVec 32 := Scalar.addi c0_i32_114 v169
  v170.toNat
def k0_cond11 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_15 : BitVec 32 := 6#32
  let v35 : BitVec 1 := Scalar.cmpi .slt v2 c6_i32_15
  let v36 : BitVec 32 := Scalar.extui v35
  let c0_i32_17 : BitVec 32 := 0#32
  let v37 : BitVec 1 := Scalar.cmpi .ne v36 c0_i32_17
  v37

def k0_off11 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off12 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_115 : BitVec 32 := 0#32
  ![v2.toNat, 0]
def k0_dev10 : Nat :=
  let c0_i32_114 : BitVec 32 := 0#32
  let c6_i32_112 : BitVec 32 := 6#32
  let c1_i32_113 : BitVec 32 := 1#32
  let v169 : BitVec 32 := Scalar.muli c6_i32_112 c1_i32_113
  let v170 : BitVec 32 := Scalar.addi c0_i32_114 v169
  v170.toNat
def k0_cond12 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_18 : BitVec 32 := 5#32
  let v38 : BitVec 1 := Scalar.cmpi .slt v2 c5_i32_18
  let v39 : BitVec 32 := Scalar.extui v38
  let c0_i32_20 : BitVec 32 := 0#32
  let v40 : BitVec 1 := Scalar.cmpi .ne v39 c0_i32_20
  v40

def k0_off13 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off14 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_115 : BitVec 32 := 0#32
  ![v2.toNat, 0]
def k0_dev11 : Nat :=
  let c0_i32_114 : BitVec 32 := 0#32
  let c5_i32_112 : BitVec 32 := 5#32
  let c1_i32_113 : BitVec 32 := 1#32
  let v169 : BitVec 32 := Scalar.muli c5_i32_112 c1_i32_113
  let v170 : BitVec 32 := Scalar.addi c0_i32_114 v169
  v170.toNat
def k0_cond13 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_21 : BitVec 32 := 4#32
  let v41 : BitVec 1 := Scalar.cmpi .slt v2 c4_i32_21
  let v42 : BitVec 32 := Scalar.extui v41
  let c0_i32_23 : BitVec 32 := 0#32
  let v43 : BitVec 1 := Scalar.cmpi .ne v42 c0_i32_23
  v43

def k0_off15 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off16 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_115 : BitVec 32 := 0#32
  ![v2.toNat, 0]
def k0_dev12 : Nat :=
  let c0_i32_114 : BitVec 32 := 0#32
  let c4_i32_112 : BitVec 32 := 4#32
  let c1_i32_113 : BitVec 32 := 1#32
  let v169 : BitVec 32 := Scalar.muli c4_i32_112 c1_i32_113
  let v170 : BitVec 32 := Scalar.addi c0_i32_114 v169
  v170.toNat
def k0_cond14 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_24 : BitVec 32 := 3#32
  let v44 : BitVec 1 := Scalar.cmpi .slt v2 c3_i32_24
  let v45 : BitVec 32 := Scalar.extui v44
  let c0_i32_26 : BitVec 32 := 0#32
  let v46 : BitVec 1 := Scalar.cmpi .ne v45 c0_i32_26
  v46

def k0_off17 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off18 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_115 : BitVec 32 := 0#32
  ![v2.toNat, 0]
def k0_dev13 : Nat :=
  let c0_i32_114 : BitVec 32 := 0#32
  let c3_i32_112 : BitVec 32 := 3#32
  let c1_i32_113 : BitVec 32 := 1#32
  let v169 : BitVec 32 := Scalar.muli c3_i32_112 c1_i32_113
  let v170 : BitVec 32 := Scalar.addi c0_i32_114 v169
  v170.toNat
def k0_cond15 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_27 : BitVec 32 := 2#32
  let v47 : BitVec 1 := Scalar.cmpi .slt v2 c2_i32_27
  let v48 : BitVec 32 := Scalar.extui v47
  let c0_i32_29 : BitVec 32 := 0#32
  let v49 : BitVec 1 := Scalar.cmpi .ne v48 c0_i32_29
  v49

def k0_off19 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off20 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_115 : BitVec 32 := 0#32
  ![v2.toNat, 0]
def k0_dev14 : Nat :=
  let c0_i32_114 : BitVec 32 := 0#32
  let c2_i32_112 : BitVec 32 := 2#32
  let c1_i32_113 : BitVec 32 := 1#32
  let v169 : BitVec 32 := Scalar.muli c2_i32_112 c1_i32_113
  let v170 : BitVec 32 := Scalar.addi c0_i32_114 v169
  v170.toNat
def k0_cond16 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_30 : BitVec 32 := 1#32
  let v50 : BitVec 1 := Scalar.cmpi .slt v2 c1_i32_30
  let v51 : BitVec 32 := Scalar.extui v50
  let c0_i32_32 : BitVec 32 := 0#32
  let v52 : BitVec 1 := Scalar.cmpi .ne v51 c0_i32_32
  v52

def k0_off21 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off22 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_115 : BitVec 32 := 0#32
  ![v2.toNat, 0]
def k0_dev15 : Nat :=
  let c0_i32_114 : BitVec 32 := 0#32
  let c1_i32_112 : BitVec 32 := 1#32
  let c1_i32_113 : BitVec 32 := 1#32
  let v169 : BitVec 32 := Scalar.muli c1_i32_112 c1_i32_113
  let v170 : BitVec 32 := Scalar.addi c0_i32_114 v169
  v170.toNat
def k0_cond17 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_33 : BitVec 32 := 0#32
  let v53 : BitVec 1 := Scalar.cmpi .slt v2 c0_i32_33
  let v54 : BitVec 32 := Scalar.extui v53
  let c0_i32_35 : BitVec 32 := 0#32
  let v55 : BitVec 1 := Scalar.cmpi .ne v54 c0_i32_35
  v55

def k0_off23 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off24 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_115 : BitVec 32 := 0#32
  ![v2.toNat, 0]
def k0_dev16 : Nat :=
  let c0_i32_114 : BitVec 32 := 0#32
  let c0_i32_112 : BitVec 32 := 0#32
  let c1_i32_113 : BitVec 32 := 1#32
  let v169 : BitVec 32 := Scalar.muli c0_i32_112 c1_i32_113
  let v170 : BitVec 32 := Scalar.addi c0_i32_114 v169
  v170.toNat
def k0_cond26 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_79 : BitVec 32 := 0#32
  let v121 : BitVec 1 := Scalar.cmpi .slt v2 c0_i32_79
  let v122 : BitVec 32 := Scalar.extui v121
  let c0_i32_81 : BitVec 32 := 0#32
  let v123 : BitVec 1 := Scalar.cmpi .ne v122 c0_i32_81
  v123

def k0_off25 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_112 : BitVec 32 := 0#32
  ![v2.toNat, 0]
def k0_cond27 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_82 : BitVec 32 := 1#32
  let v124 : BitVec 1 := Scalar.cmpi .slt v2 c1_i32_82
  let v125 : BitVec 32 := Scalar.extui v124
  let c0_i32_84 : BitVec 32 := 0#32
  let v126 : BitVec 1 := Scalar.cmpi .ne v125 c0_i32_84
  v126

def k0_off26 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_112 : BitVec 32 := 0#32
  ![v2.toNat, 0]
def k0_cond28 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_85 : BitVec 32 := 2#32
  let v127 : BitVec 1 := Scalar.cmpi .slt v2 c2_i32_85
  let v128 : BitVec 32 := Scalar.extui v127
  let c0_i32_87 : BitVec 32 := 0#32
  let v129 : BitVec 1 := Scalar.cmpi .ne v128 c0_i32_87
  v129

def k0_off27 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_112 : BitVec 32 := 0#32
  ![v2.toNat, 0]
def k0_cond29 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_88 : BitVec 32 := 3#32
  let v130 : BitVec 1 := Scalar.cmpi .slt v2 c3_i32_88
  let v131 : BitVec 32 := Scalar.extui v130
  let c0_i32_90 : BitVec 32 := 0#32
  let v132 : BitVec 1 := Scalar.cmpi .ne v131 c0_i32_90
  v132

def k0_off28 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_112 : BitVec 32 := 0#32
  ![v2.toNat, 0]
def k0_cond30 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_91 : BitVec 32 := 4#32
  let v133 : BitVec 1 := Scalar.cmpi .slt v2 c4_i32_91
  let v134 : BitVec 32 := Scalar.extui v133
  let c0_i32_93 : BitVec 32 := 0#32
  let v135 : BitVec 1 := Scalar.cmpi .ne v134 c0_i32_93
  v135

def k0_off29 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_112 : BitVec 32 := 0#32
  ![v2.toNat, 0]
def k0_cond31 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_94 : BitVec 32 := 5#32
  let v136 : BitVec 1 := Scalar.cmpi .slt v2 c5_i32_94
  let v137 : BitVec 32 := Scalar.extui v136
  let c0_i32_96 : BitVec 32 := 0#32
  let v138 : BitVec 1 := Scalar.cmpi .ne v137 c0_i32_96
  v138

def k0_off30 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_112 : BitVec 32 := 0#32
  ![v2.toNat, 0]
def k0_cond32 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_97 : BitVec 32 := 6#32
  let v139 : BitVec 1 := Scalar.cmpi .slt v2 c6_i32_97
  let v140 : BitVec 32 := Scalar.extui v139
  let c0_i32_99 : BitVec 32 := 0#32
  let v141 : BitVec 1 := Scalar.cmpi .ne v140 c0_i32_99
  v141

def k0_off31 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_112 : BitVec 32 := 0#32
  ![v2.toNat, 0]
def k0_cond33 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_100 : BitVec 32 := 7#32
  let v142 : BitVec 1 := Scalar.cmpi .slt v2 c7_i32_100
  let v143 : BitVec 32 := Scalar.extui v142
  let c0_i32_102 : BitVec 32 := 0#32
  let v144 : BitVec 1 := Scalar.cmpi .ne v143 c0_i32_102
  v144

def k0_off32 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_112 : BitVec 32 := 0#32
  ![v2.toNat, 0]
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8192x512 : Shape := ⟨2, ![8192, 512]⟩
abbrev S_ : Shape := ⟨0, ![]⟩
abbrev S512 : Shape := ⟨1, ![512]⟩
abbrev S1x512 : Shape := ⟨2, ![1, 512]⟩

abbrev nBuf : Space → Nat
  | .hbm => 21
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S_, .f32⟩
  | .hbm, ⟨2, _⟩ => ⟨S512, .f32⟩
  | .hbm, ⟨3, _⟩ => ⟨S_, .f32⟩
  | .hbm, ⟨4, _⟩ => ⟨S8192x512, .f32⟩
  | .hbm, ⟨5, _⟩ => ⟨S_, .i32⟩
  | .hbm, ⟨6, _⟩ => ⟨S8192x512, .f32⟩
  | .hbm, ⟨7, _⟩ => ⟨S_, .i32⟩
  | .hbm, ⟨8, _⟩ => ⟨S512, .f32⟩
  | .hbm, ⟨9, _⟩ => ⟨S8192x512, .f32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S1x512, .f32⟩
  | .hbm, ⟨14, _⟩ => ⟨S512, .f32⟩
  | .hbm, ⟨15, _⟩ => ⟨S512, .f32⟩
  | .hbm, ⟨16, _⟩ => ⟨S1x512, .f32⟩
  | .hbm, ⟨17, _⟩ => ⟨S_, .i32⟩
  | .hbm, ⟨18, _⟩ => ⟨S8192x512, .f32⟩
  | .hbm, ⟨19, _⟩ => ⟨S_, .i32⟩
  | .hbm, ⟨20, _⟩ => ⟨S_, .i32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_c : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_while0c_c_4 : Ref sig .tc := ⟨.hbm, 10, rfl⟩
abbrev main_while0c_v3 : Ref sig .tc := ⟨.hbm, 11, rfl⟩
abbrev main_while0b_call0_c : Ref sig .tc := ⟨.hbm, 12, rfl⟩
abbrev main_while0b_call0_v0 : Ref sig .tc := ⟨.hbm, 13, rfl⟩
abbrev main_while0b_v3 : Ref sig .tc := ⟨.hbm, 14, rfl⟩
abbrev main_while0b_v4 : Ref sig .tc := ⟨.hbm, 15, rfl⟩
abbrev main_while0b_call1_v0 : Ref sig .tc := ⟨.hbm, 16, rfl⟩
abbrev main_while0b_call1_c : Ref sig .tc := ⟨.hbm, 17, rfl⟩
abbrev main_while0b_v5 : Ref sig .tc := ⟨.hbm, 18, rfl⟩
abbrev main_while0b_c_4 : Ref sig .tc := ⟨.hbm, 19, rfl⟩
abbrev main_while0b_v6 : Ref sig .tc := ⟨.hbm, 20, rfl⟩

abbrev nD : Nat := 1
abbrev τ : Topo := Topo.v7x

variable {F : FTy → Type} [FloatOps F]

abbrev main_while0_count : Scf.Loop 32 := ⟨0#32, 8192#32, 1#32⟩
-- ==== Proof.Protocol.lean ====
/-
The protocol of the prefix-product kernel between the eight devices.

Every device `j` folds its rows into one row of products, its TOTAL, and sends the total to each later device `c > j`,
which keeps it in row `j` of a landing buffer. Each ordered pair of devices has three semaphores of its own:

  * `credC c j` — a regular semaphore of device `c`. Device `j > c` signals it once: "row `c` of my landing buffer is
    yours to write". Device `c` waits for it before it sends its total to `j`.
  * `sendC c j` — a transfer semaphore of device `c`, credited when the copy to `j > c` has read its source. Device `c`
    waits for it before it ends, and gets back the share of its total that the copy was lent.
  * `recvC c j` — a transfer semaphore of device `c`, credited when the total of `j < c` has landed. Device `c` waits
    for it, and gets back row `j` of its own landing buffer, now holding the total of `j`.

Each of them is signalled at most once, so every semaphore has a single round and a single duty. A pair in the wrong
order has no duty: its semaphores are only kept and closed again at the end.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Rounds
public import Idealize.ShloMosaic.Lib.ShareLeaves
public import Idealize.ShloMosaic.Lib.Pointwise
public import Idealize.ShloMosaic.Lib.Pipeline.Launch
public import Idealize.ShloMosaic.Lib.Pipeline.Kit
public import Idealize.ShloMosaic.Lib.Pipeline.BigSepL
public import Idealize.ShloMosaic.Lib.Tactic

@[expose] public section

noncomputable section

namespace Cert.Prefix

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

variable (m : (ℓ : Loc nD τ sig) → Buf (Elt F) ℓ) (ρ : Dev nD → PrngReg)

/-- The launch's memory: the argument's contents, every counter at zero. -/
def s₀ : MemSt nD τ sig (Elt F) := ⟨m, fun _ => 0, ρ⟩

/-! ## The memrefs and the semaphores -/

abbrev xM : Memref sig .tc .vmem S1024x512 .f32 := Memref.whole cc0_stg0_0
abbrev oM : Memref sig .tc .vmem S1024x512 .f32 := Memref.whole cc0_stg1_0
abbrev tM : Memref sig .tc .vmem S1x512 .f32 := Memref.whole cc0_scratch0
abbrev rM : Memref sig .tc .vmem S8x512 .f32 := Memref.whole cc0_scratch1

theorem inb1 (j : Dev nD) : ∀ a, (![j.val] : Fin 1 → Nat) a + S1.size a ≤ S8.size a := by revert j; decide
theorem inb2 (j : Dev nD) : ∀ a, (![j.val, 0] : Fin 2 → Nat) a + S1x512.size a ≤ S8x512.size a := by revert j; decide

/-- Row `j` of the landing buffer. -/
abbrev rowM (j : Dev nD) : Memref sig .tc .vmem S1x512 .f32 :=
  rM.slice (Rect.unit (s := S8x512) ![j.val, 0] S1x512.size (inb2 j)) (fun _ => rfl)

/-- The semaphore a device is told by that its row on device `j` may be written. -/
def credS (j : Dev nD) : Sem sig := (((cc0_scratch2 : Sems sig S8).slice (Rect.unit (s := S8) ![j.val] S1.size (inb1 j))).squeeze S_ squeezes_S1_S_).sem
/-- The semaphore of the source of a copy to device `j`. -/
def sendS (j : Dev nD) : DmaSem sig := (((cc0_scratch3 : DmaSems sig S8).slice (Rect.unit (s := S8) ![j.val] S1.size (inb1 j))).squeeze S_ squeezes_S1_S_).sem
/-- The semaphore the landing of device `j`'s total is announced by. -/
def recvS (j : Dev nD) : DmaSem sig := (((cc0_scratch4 : DmaSems sig S8).slice (Rect.unit (s := S8) ![j.val] S1.size (inb1 j))).squeeze S_ squeezes_S1_S_).sem

theorem credS_val (j : Dev nD) : (credS j).val = j.val := by revert j; decide
theorem sendS_val (j : Dev nD) : (sendS j).val = 2 + j.val := by revert j; decide
theorem recvS_val (j : Dev nD) : (recvS j).val = 10 + j.val := by revert j; decide

/-- A semaphore of a device by its use (0 credit, 1 send, 2 receive) and the device at the other end. -/
abbrev Slot : Type := Fin 3 × Dev nD

/-- The semaphore of a slot. -/
def osem : Slot → SemLoc sig
  | (0, j) => .reg (credS j)
  | (1, j) => .dma (sendS j)
  | (2, j) => .dma (recvS j)

/-- The slot a semaphore is at, read off its number. -/
def slotOf : SemLoc sig → Slot
  | .reg s => (0, ⟨s.val % 8, Nat.mod_lt _ (by decide)⟩)
  | .dma s => if s.val < 10 then (1, ⟨(s.val - 2) % 8, Nat.mod_lt _ (by decide)⟩) else (2, ⟨(s.val - 10) % 8, Nat.mod_lt _ (by decide)⟩)

theorem slotOf_osem (k : Slot) : slotOf (osem k) = k := by revert k; decide
theorem osem_inj : Function.Injective osem := fun a b h => by rw [← slotOf_osem a, h, slotOf_osem]

/-- The semaphore of a device's slot. -/
abbrev kcell (ck : Dev nD × Slot) : GSem nD τ sig := ((ck.1 : Thread nD τ), osem ck.2)
/-- On device `c`, the credit from device `j`. -/
abbrev credC (c j : Dev nD) : GSem nD τ sig := ((c : Thread nD τ), .reg (credS j))
/-- On device `c`, the end of the copy to device `j`. -/
abbrev sendC (c j : Dev nD) : GSem nD τ sig := ((c : Thread nD τ), .dma (sendS j))
/-- On device `c`, the landing from device `j`. -/
abbrev recvC (c j : Dev nD) : GSem nD τ sig := ((c : Thread nD τ), .dma (recvS j))

/-- The units a copy of one row is counted by. -/
abbrev N : ℕ := (rowM 0).view.dmaCredit
theorem N_pos : 0 < N := View.dmaCredit_pos _ (by decide)

theorem N_row (j : Dev nD) : (rowM j).view.dmaCredit = N := rfl
theorem N_tot : tM.view.dmaCredit = N := rfl

/-! ## Contents -/

/-- Device `c`'s block of the argument, as the pipeline stages it. -/
def xstg (c : Dev nD) : (cc0_stg0_0 : Ref sig .tc).ty.Contents (Elt F) :=
  (win0_0.blk (0 : Fin 1)).view.read (Elt F) ((s₀ m ρ).mem ((c : Thread nD τ).loc main_arg0))

/-- Device `c`'s total: the products of the columns of its block. -/
def tot (c : Dev nD) : (cc0_scratch0 : Ref sig .tc).ty.Contents (Elt F) := k0_pay3 (k0_pay2 (xstg m ρ c))

/-- The contents of a landing buffer all of whose rows have landed: row `j` is the total of device `j`. -/
def allTot : (cc0_scratch1 : Ref sig .tc).ty.Contents (Elt F) :=
  fun i => tot m ρ (i 0) (ix2 (0 : Fin 1) (i 1))

/-- Row `j` of device `c`'s landing buffer, the buffer's contents given by `f`. -/
def rowPts (c j : Dev nD) (f : (cc0_scratch1 : Ref sig .tc).ty.Contents (Elt F)) : sProp 𝕄 :=
  (rowM j).view.loc (c : Thread nD τ) ↦[(rowM j).view.set]{fullShare} f

/-- The share of device `c`'s total that the copy to device `j` is lent. -/
def totPts (c j : Dev nD) (f : (cc0_scratch0 : Ref sig .tc).ty.Contents (Elt F)) : sProp 𝕄 :=
  tM.view.loc (c : Thread nD τ) ↦[tM.view.set]{ShareLeaves.leaf 3 fullShare j} f

omit [FloatOps F] in
instance rowPts_storable (c j : Dev nD) (f) : BI.Storable (upEmb : UEmb _ 𝕄) (rowPts (F := F) c j f) := by unfold rowPts; infer_instance
omit [FloatOps F] in
instance totPts_storable (c j : Dev nD) (f) : BI.Storable (upEmb : UEmb _ 𝕄) (totPts (F := F) c j f) := by unfold totPts; infer_instance

/-! ## The schedule -/

/-- Whether a semaphore is used at all: a credit or a send of a device is, towards a later one; a receive, from an earlier one. -/
def Live (c : Dev nD) (k : Slot) : Prop := if k.1 = 2 then k.2 < c else c < k.2
instance (c : Dev nD) (k : Slot) : Decidable (Live c k) := by unfold Live; infer_instance

/-- What the one signal on a semaphore hands its waiter. -/
def pay (c : Dev nD) : Slot → sProp 𝕄
  | (0, j) => iprop(∃ f, rowPts j c f)
  | (1, j) => totPts c j (tot m ρ c)
  | (2, j) => rowPts c j (allTot m ρ)

/-- The units of the one signal on a semaphore. -/
def amt (k : Slot) : ℕ := if k.1 = 0 then 1 else N
theorem amt_pos (k : Slot) : 0 < amt k := by unfold amt; split; exacts [Nat.one_pos, N_pos]

/-- The protocol: for each semaphore its one round, with the amount and what it hands over. -/
def Rd : Rounds.Schedule (GSem nD τ sig) Unit 𝕄 where
  duties g r := if r = 0 ∧ Live g.1.1 (slotOf g.2) then {()} else ∅
  unitless _ := False
  amount g _ _ := amt (slotOf g.2)
  payload g _ _ := pay m ρ g.1.1 (slotOf g.2)
  amount_pos g _ _ _ := amt_pos _

instance pay_storable (c : Dev nD) (k : Slot) : BI.Storable (upEmb : UEmb _ 𝕄) (pay (F := F) m ρ c k) := by
  obtain ⟨k, j⟩ := k
  fin_cases k
  · show BI.Storable upEmb (iprop(∃ f, rowPts j c f)); infer_instance
  · show BI.Storable upEmb (totPts c j (tot m ρ c)); infer_instance
  · show BI.Storable upEmb (rowPts c j (allTot m ρ)); infer_instance

instance Rd_payload_storable (g : GSem nD τ sig) (r : ℕ) (d : Unit) : BI.Storable (upEmb : UEmb _ 𝕄) ((Rd (F := F) m ρ).payload g r d) :=
  pay_storable m ρ g.1.1 (slotOf g.2)

theorem kcell_cred (c j : Dev nD) : kcell (c, (0, j)) = credC c j := rfl
theorem kcell_send (c j : Dev nD) : kcell (c, (1, j)) = sendC c j := rfl
theorem kcell_recv (c j : Dev nD) : kcell (c, (2, j)) = recvC c j := rfl

section Sched
variable {c : Dev nD} {k : Slot} {g : GSem nD τ sig} (hg : kcell (c, k) = g)
include hg

/-- A live slot is signalled once. -/
theorem duties_live (h : Live c k) : (Rd (F := F) m ρ).duties g 0 = {()} := by
  subst hg; dsimp only [Rd]; rw [slotOf_osem]; exact if_pos ⟨rfl, h⟩
theorem duties_mem (h : Live c k) : () ∈ (Rd (F := F) m ρ).duties g 0 := by
  rw [duties_live m ρ hg h]; exact Finset.mem_singleton_self _
omit hg in
/-- No slot is signalled again. -/
theorem duties_later (g : GSem nD τ sig) : ∀ r, 1 ≤ r → (Rd (F := F) m ρ).duties g r = ∅ :=
  fun r hr => by dsimp only [Rd]; exact if_neg fun h => by omega
/-- A slot that is not live is never signalled. -/
theorem duties_dead (h : ¬Live c k) : ∀ r, 0 ≤ r → (Rd (F := F) m ρ).duties g r = ∅ :=
  fun r _ => by subst hg; dsimp only [Rd]; rw [slotOf_osem]; exact if_neg fun h' => h h'.2
/-- The amount of a slot's signal. -/
theorem amount_at (u : Unit) : (Rd (F := F) m ρ).amount g 0 u = amt k := by
  subst hg; dsimp only [Rd]; rw [slotOf_osem]
/-- What the signal hands over. -/
theorem payload_at (u : Unit) : (Rd (F := F) m ρ).payload g 0 u = pay m ρ c k := by
  subst hg; dsimp only [Rd]; rw [slotOf_osem]
/-- What a wait on a live slot waits for. -/
theorem expect_live (h : Live c k) : (Rd (F := F) m ρ).expect g 0 = amt k := by
  unfold Schedule.expect Schedule.amountOf; rw [duties_live m ρ hg h, Finset.sum_singleton, amount_at m ρ hg]
/-- What a wait on a live slot gets. -/
theorem rest_live (h : Live c k) : bigSep ((Rd (F := F) m ρ).duties g 0 \ ∅) (fun u => (Rd (F := F) m ρ).payload g 0 u) = pay m ρ c k := by
  rw [Finset.sdiff_empty, duties_live m ρ hg h, bigSep_singleton, payload_at m ρ hg]

end Sched

/-! ## What each device owes, and the levels that order the waits -/

/-- The units device `c` owes the credit semaphores of the devices of a list. -/
def oCred (c : Dev nD) (l : List (Dev nD)) : CellTallies nD τ sig Unit :=
  (l.map fun j => if j < c then tallyAt (credC j c) () 1 else 0).sum
/-- The units device `c` owes the receive semaphores of the devices of a list. -/
def oRecv (c : Dev nD) (l : List (Dev nD)) : CellTallies nD τ sig Unit :=
  (l.map fun j => if c < j then tallyAt (recvC j c) () N else 0).sum

/-- The devices in the order of their numbers. -/
abbrev up : List (Dev nD) := [0, 1, 2, 3, 4, 5, 6, 7]
/-- The devices in the opposite order. -/
abbrev down : List (Dev nD) := [7, 6, 5, 4, 3, 2, 1, 0]

/-- What a device owes at first: a credit to each earlier device and a landing on each later one. -/
def O₀ (c : Dev nD) : CellTallies nD τ sig Unit := oCred c up + oRecv c down

/-- Only the kernel's own processors wait. -/
def L (g : GSem nD τ sig) : Finset Unit := if g.1.2 = .tc then {()} else ∅
/-- The levels: the staging copies and the sends below the credits, the credits below the receives. -/
def lv (g : GSem nD τ sig) (_ : Unit) : ℕ :=
  match g.2 with
  | .reg _ => 1
  | .dma s => if s.val < 10 then 0 else 2
theorem L_of_ne (g : GSem nD τ sig) (h : g.1.2 ≠ .tc) : L g = ∅ := if_neg h
theorem L_tc (c : Dev nD) (sm : SemLoc sig) : L ((c : Thread nD τ), sm) = {()} := if_pos rfl
/-- A landing is at level two. -/
theorem lv_recv (c j : Dev nD) : lv (recvC c j) () = 2 := by
  dsimp only [lv]; rw [if_neg]; rw [recvS_val]; omega

theorem sum_pos {l : List (Dev nD)} {f : Dev nD → CellTallies nD τ sig Unit} {g : GSem nD τ sig} {u : Unit}
    (h : 0 < (l.map f).sum g u) : ∃ j ∈ l, 0 < f j g u := by
  induction l with
  | nil => exact absurd h (Nat.lt_irrefl 0)
  | cons j l ih =>
    rw [List.map_cons, List.sum_cons, Pi.add_apply, Finsupp.add_apply] at h
    by_cases hj : 0 < f j g u
    · exact ⟨j, List.mem_cons_self .., hj⟩
    · obtain ⟨i, hi, hp⟩ := ih (by omega)
      exact ⟨i, List.mem_cons_of_mem _ hi, hp⟩

theorem oCred_pos {c : Dev nD} {l : List (Dev nD)} {g : GSem nD τ sig} {u : Unit} (h : 0 < oCred c l g u) : ∃ j, g = credC j c := by
  obtain ⟨j, -, hj⟩ := sum_pos h
  by_cases hc : j < c
  · rw [if_pos hc, tallyAt_apply] at hj
    by_contra hn
    rw [if_neg fun h' => hn ⟨j, h'.1⟩] at hj
    exact Nat.lt_irrefl 0 hj
  · rw [if_neg hc] at hj; exact absurd hj (Nat.lt_irrefl 0)
theorem oRecv_pos {c : Dev nD} {l : List (Dev nD)} {g : GSem nD τ sig} {u : Unit} (h : 0 < oRecv c l g u) : ∃ j, g = recvC j c := by
  obtain ⟨j, -, hj⟩ := sum_pos h
  by_cases hc : c < j
  · rw [if_pos hc, tallyAt_apply] at hj
    by_contra hn
    rw [if_neg fun h' => hn ⟨j, h'.1⟩] at hj
    exact Nat.lt_irrefl 0 hj
  · rw [if_neg hc] at hj; exact absurd hj (Nat.lt_irrefl 0)
/-- It owes credits and landings only. -/
theorem O₀_pos {c : Dev nD} {g : GSem nD τ sig} {u : Unit} (h : 0 < O₀ c g u) : (∃ j, g = credC j c) ∨ ∃ j, g = recvC j c := by
  unfold O₀ at h
  rw [Pi.add_apply, Finsupp.add_apply] at h
  rcases Nat.add_pos_iff_pos_or_pos.mp h with h | h
  · exact .inl (oCred_pos h)
  · exact .inr (oRecv_pos h)

omit [FloatOps F] in
/-- A staging copy may be awaited whatever the device still owes. -/
theorem mayWait_stage (c : Dev nD) (q : DmaSem sig) (hq : q.val < 10) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨j, rfl⟩ | ⟨j, rfl⟩ <;> exact Finset.mem_singleton_self _)
      (fun p hp => by rw [Finset.mem_singleton.mp hp]; dsimp only [lv]; rw [if_pos hq])
      (fun g u hg => by
        rcases O₀_pos hg with ⟨j, rfl⟩ | ⟨j, rfl⟩
        · show 0 < 1; decide
        · rw [lv_recv]; decide)
  · rw [MayWait_zero]; iintro -; iempintro

omit [FloatOps F] in
/-- A credit may be awaited while totals are still owed. -/
theorem mayWait_cred (c j : Dev nD) (l : List (Dev nD)) :
    (levAts L lv : sProp 𝕄) ⊢ MayWait (c : Thread nD τ) (.reg (credS j)) () (oRecv c l) :=
  MayOwe.of_cut (L := L) (lev := lv) 1 (fun p hp => by rw [Finset.mem_singleton.mp hp, L_tc]; exact Finset.mem_singleton_self _)
    (fun g u hg => by obtain ⟨i, rfl⟩ := oRecv_pos hg; exact Finset.mem_singleton_self _)
    (fun p hp => by rw [Finset.mem_singleton.mp hp]; exact Nat.le_refl 1)
    (fun g u hg => by obtain ⟨i, rfl⟩ := oRecv_pos hg; rw [lv_recv]; decide)

end Cert.Prefix

end
-- ==== Proof.Steps.lean ====
/-
One device's steps of the protocol: the signal of a row, the wait for a credit with the copy it allows, the wait for a
landing, the wait for a copy's source. Each step of the kernel is a branch the device takes or skips by its number; a
lemma below reads the branch once, for a device `c` and a partner `j`, and says what the step takes and what it leaves.
-/
module

public import proofs.«01_k».proof.Proof.Protocol

@[expose] public section

noncomputable section

namespace Cert.Prefix

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The invariants of all the semaphores of all the devices, and that each is at its round 0. -/
def records (K : Dev nD × Slot → ℕ) : sProp 𝕄 :=
  iprop((bigSep Finset.univ fun ck : Dev nD × Slot => cellInv ER (Rd m ρ) (K ck) (kcell ck))
    ∗ bigSep Finset.univ fun ck : Dev nD × Slot => reached ER (kcell ck) 0)
instance records_persistent (K : Dev nD × Slot → ℕ) : BI.Persistent (records m ρ K) := by unfold records; infer_instance

/-- What every step may use and keeps: the records and the levels. -/
def ctx (K : Dev nD × Slot → ℕ) : sProp 𝕄 := iprop(records m ρ K ∗ levAts L lv)
instance ctx_persistent (K : Dev nD × Slot → ℕ) : BI.Persistent (ctx m ρ K) := by unfold ctx; infer_instance

/-- One of all. -/
theorem all_elim {I : Type} [Fintype I] [DecidableEq I] (Φ : I → sProp 𝕄) (i : I) : bigSep Finset.univ Φ ⊢ Φ i := bigSep_elim (Finset.mem_univ i)

/-- The records hold each slot's invariant. -/
theorem ctx_inv (K : Dev nD × Slot → ℕ) {c : Dev nD} {k : Slot} {g : GSem nD τ sig} (hg : kcell (c, k) = g) :
    ctx m ρ K ⊢ cellInv ER (Rd m ρ) (K (c, k)) g := by
  subst hg
  unfold ctx records
  iintro ⟨⟨H, -⟩, -⟩
  iapply (all_elim (fun ck : Dev nD × Slot => (cellInv ER (Rd m ρ) (K ck) (kcell ck) : sProp 𝕄)) (c, k))
  iexact H
/-- They hold that each slot's first round is reached. -/
theorem ctx_reached (K : Dev nD × Slot → ℕ) {c : Dev nD} {k : Slot} {g : GSem nD τ sig} (hg : kcell (c, k) = g) :
    ctx m ρ K ⊢ reached ER g 0 := by
  subst hg
  unfold ctx records
  iintro ⟨⟨-, H⟩, -⟩
  iapply (all_elim (fun ck : Dev nD × Slot => (reached ER (kcell ck) 0 : sProp 𝕄)) (c, k))
  iexact H
/-- They hold the levels. -/
theorem ctx_lev (K : Dev nD × Slot → ℕ) : ctx m ρ K ⊢ levAts L lv := by
  unfold ctx
  iintro ⟨-, H⟩
  iexact H

/-- The device's dues, whatever waits it has done. -/
def dues (c : Dev nD) (O : CellTallies nD τ sig Unit) : sProp 𝕄 := iprop(∃ W, owes (c : Thread nD τ) O W)

section Step

variable (K : Dev nD × Slot → ℕ) (c : Dev nD)

/-- The body's programs, run on device `c`. -/
abbrev wpc {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A run of steps over a list of partners: `l` the partners still to come, each with what its step takes, `d` the
    partners done, each with what its step left; `O` the dues left, `R` whatever the steps do not touch. -/
def phase (In Out : Dev nD → sProp 𝕄) (O : List (Dev nD) → CellTallies nD τ sig Unit) (R : sProp 𝕄) (l d : List (Dev nD)) : sProp 𝕄 :=
  iprop(ctx m ρ K ∗ R ∗ bigSepL l In ∗ bigSepL d Out ∗ dues c (O l))

/-- A step's lemma moves its partner from the partners to come to the partners done. -/
theorem phase_step {α : Type} {Q : α → sProp 𝕄} {In Out : Dev nD → sProp 𝕄} {O : List (Dev nD) → CellTallies nD τ sig Unit} {R : sProp 𝕄} {j : Dev nD} {l d : List (Dev nD)}
    {p k : Prog (TpuEff nD τ sig (Elt F) Λ₀ .tc) α}
    (hs : iprop(ctx m ρ K ∗ In j ∗ dues c (O (j :: l))) ⊢ iprop((Out j ∗ dues c (O l) -∗ wpc c k Q) -∗ wpc c p Q))
    (hk : phase m ρ K c In Out O R l (j :: d) ⊢ wpc c k Q) : phase m ρ K c In Out O R (j :: l) d ⊢ wpc c p Q := by
  unfold phase at hk ⊢
  rw [bigSepL_cons'] at hk ⊢
  iintro ⟨#Hc, HR, ⟨Hj, Hl⟩, Hd, HO⟩
  iapply hs $$ [Hj HO]
  · isplitr; · iexact Hc
    isplitl [Hj] <;> iassumption
  iintro ⟨Hj, HO⟩
  iapply hk
  isplitr; · iexact Hc
  isplitl [HR]; · iexact HR
  isplitl [Hl]; · iexact Hl
  isplitl [Hj Hd]
  · isplitl [Hj] <;> iassumption
  iexact HO

/-- Closing a semaphore whose one round is over. -/
theorem close_done {c : Dev nD} {k : Slot} {g : GSem nD τ sig} (hg : kcell (c, k) = g) :
    iprop(ctx m ρ K ∗ atPos ER g (0 + 1) ∅ 0) ⊢ |={Set.univ}=> semVal g 0 := by
  iintro ⟨#Hc, Hat⟩
  iapply (Rounds.cell_close ER (Rd m ρ) (Set.mem_univ (K (c, k))) (fun h => h) (R := 0 + 1) (duties_later m ρ g))
  isplitr; · iapply (ctx_inv m ρ K hg); iexact Hc
  iexact Hat

/-- Closing a semaphore nobody ever signals. -/
theorem close_dead {c : Dev nD} {k : Slot} {g : GSem nD τ sig} (hg : kcell (c, k) = g) (h : ¬Live c k) :
    iprop(ctx m ρ K ∗ atPos ER g 0 ∅ 0) ⊢ |={Set.univ}=> semVal g 0 := by
  iintro ⟨#Hc, Hat⟩
  iapply (Rounds.cell_close ER (Rd m ρ) (Set.mem_univ (K (c, k))) (fun h => h) (R := 0) (duties_dead m ρ hg h))
  isplitr; · iapply (ctx_inv m ρ K hg); iexact Hc
  iexact Hat

/-! ### The signal of a row -/

/-- Before the signals: the duty on the credit of partner `j`, and the own row `j`. -/
def sigIn (j : Dev nD) : sProp 𝕄 := iprop(dutyTok ER (credC j c) 0 () ∗ ∃ f, rowPts c j f)
/-- After the signals: the rows of the earlier partners are given away, the others kept. -/
def sigOut (j : Dev nD) : sProp 𝕄 := if j < c then iprop(emp) else iprop(∃ f, rowPts c j f)

/-- The signal to device `j`, sent if `j < c`. -/
theorem sig_core {α : Type} {Q : α → sProp 𝕄} {j : Dev nD} {l : List (Dev nD)} {O : CellTallies nD τ sig Unit} {b : BitVec 1} (hb : b = 1#1 ↔ j < c)
    {t : b = 1#1 → Prog (TpuEff nD τ sig (Elt F) Λ₀ .tc) α} {k : Prog (TpuEff nD τ sig (Elt F) Λ₀ .tc) α}
    (ht : ∀ h, t h = semSignalWord j (credS c) 1#32 >>= fun _ => k) :
    iprop(ctx m ρ K ∗ sigIn c j ∗ dues c (oCred c (j :: l) + O))
      ⊢ iprop((sigOut c j ∗ dues c (oCred c l + O) -∗ wpc c k Q) -∗ wpc c (dite (b = 1#1) t fun _ => k) Q) := by
  unfold sigIn sigOut dues oCred
  rw [List.map_cons, List.sum_cons]
  by_cases h : b = 1#1
  · have hj : j < c := hb.mp h
    have hlive : Live j (0, c) := hj
    rw [dif_pos h, if_pos hj, if_pos hj, ht h]
    simp only [semSignalWord, Prog.bind_op, Prog.bind_ret]
    iintro ⟨#Hc, ⟨Ht, Hrow⟩, ⟨%W, HO⟩⟩ Hk
    iapply (Rounds.wp_signal 𝒱₀ ER (Rd m ρ) (c : Thread nD τ) none (dst := (j : Thread nD τ)) (κ := K (j, (0, c)))
      (duties_mem m ρ (kcell_cred j c) hlive) ((amount_at m ρ (kcell_cred j c) ()).trans rfl) () ((l.map fun j => if j < c then tallyAt (credC j c) () 1 else 0).sum + O)
      (O₀ := tallyAt (credC j c) () 1 + (l.map fun j => if j < c then tallyAt (credC j c) () 1 else 0).sum + O) (by rw [add_assoc, add_comm]; rfl)) $$ [HO Ht Hrow]
    · isplitr; · iapply (ctx_inv m ρ K (kcell_cred j c)); iexact Hc
      isplitl [HO]; · iexact HO
      isplitl [Ht]; · iexact Ht
      isplitl [Hrow]
      · iapply (Entails.of_eq (payload_at m ρ (kcell_cred j c) ()).symm); unfold pay; iexact Hrow
      · iapply (ctx_reached m ρ K (kcell_cred j c)); iexact Hc
    iintro HO
    iapply Hk
    isplitr; · iempintro
    iexists W; iexact HO
  · have hj : ¬j < c := fun h' => h (hb.mpr h')
    rw [dif_neg h, if_neg hj, if_neg hj, zero_add]
    iintro ⟨-, ⟨-, Hrow⟩, HO⟩ Hk
    iapply Hk
    isplitl [Hrow] <;> iassumption

/-! ### The wait for a credit and the copy -/

/-- The right to a copy: the own credit semaphore with the credit the launch gives, and the duties on the copy's two semaphores. -/
def sendTok (j : Dev nD) : sProp 𝕄 :=
  iprop(atPos ER (credC c j) 0 ∅ 0 ∗ cred (tallyAt (credC c j) () (if c < j then 1 else 0))
    ∗ dutyTok ER (sendC c j) 0 () ∗ dutyTok ER (recvC j c) 0 ())
/-- Before the copies: the rights to them, and the shares of the total, whose contents are `T`. -/
def sendIn (T : (cc0_scratch0 : Ref sig .tc).ty.Contents (Elt F)) (j : Dev nD) : sProp 𝕄 := iprop(sendTok c j ∗ totPts c j T)
/-- A copy under way leaves the credit of its source; a copy not made leaves the share. -/
def sendOut (T : (cc0_scratch0 : Ref sig .tc).ty.Contents (Elt F)) (j : Dev nD) : sProp 𝕄 :=
  iprop(semVal (credC c j) 0 ∗ if c < j then iprop(cred (tallyAt (sendC c j) () N)) else totPts c j T)

/-- Where a landing row's entries lie. -/
theorem row_emb (j : Dev nD) (x : S1x512.Idx) : (rowM j).view.emb x = ix2 j (x 1) := by
  funext a
  apply Fin.ext
  match a with
  | ⟨0, _⟩ =>
    show j.val + 1 * (x 0).val = j.val
    have h : (x 0).val < 1 := (x 0).isLt
    omega
  | ⟨1, _⟩ =>
    show 0 + 1 * (x 1).val = (x 1).val
    omega

/-- Row `j` of the landing buffer is the positions whose first coordinate is `j`. -/
theorem mem_row (j : Dev nD) (i : S8x512.Idx) : i ∈ (rowM j).view.set ↔ i 0 = j := by
  constructor
  · intro h
    obtain ⟨x, -, rfl⟩ := Finset.mem_map.mp h
    rw [row_emb]; rfl
  · rintro rfl
    exact Finset.mem_map.mpr ⟨ix2 0 (i 1), Finset.mem_univ _, (row_emb (i 0) (ix2 0 (i 1))).trans (ix2_eta i)⟩

/-- What lands in row `c`: the total of device `c`. -/
theorem landed_row (c j : Dev nD) (fd : (cc0_scratch1 : Ref sig .tc).ty.Contents (Elt F)) :
    rowPts j c ((rowM c).view.write (Elt F) fd (tM.view.read (Elt F) (tot m ρ c)) Finset.univ) ⊢ rowPts j c (allTot m ρ) := by
  unfold rowPts
  refine Entails.of_eq (pointsTo_congr fun i hi => ?_)
  obtain ⟨x, -, rfl⟩ := Finset.mem_map.mp hi
  rw [View.write_emb_of_mem (h := Finset.mem_univ _)]
  show tot m ρ c x = allTot m ρ ((rowM c).view.emb x)
  rw [row_emb]
  show tot m ρ c x = tot m ρ c (ix2 0 (x 1))
  exact congrArg _ ((ix2_eta x).symm.trans (congrArg (fun a => ix2 a (x 1)) (Subsingleton.elim (α := Fin 1) _ _)))

/-- One send, alone: wait for the credit of device `j` and start the copy, if `j` is later. -/
theorem send_core {α : Type} {Q : α → sProp 𝕄} {j : Dev nD} {l : List (Dev nD)} {T : (cc0_scratch0 : Ref sig .tc).ty.Contents (Elt F)} (hT : c < j → T = tot m ρ c)
    {b : BitVec 1} (hb : b = 1#1 ↔ c < j)
    {t : b = 1#1 → Prog (TpuEff nD τ sig (Elt F) Λ₀ .tc) α} {k : Prog (TpuEff nD τ sig (Elt F) Λ₀ .tc) α}
    {hsc : (rowM c).view.ref.isScScratch = false}
    {hsrc : tM.view.WordExact} {hdst : (rowM c).view.WordExact}
    {hsem : DmaTarget.Typed .vmem (.dma (recvS c)) (.remote (Dev.tc j : Thread nD τ) (rowM c) (.dma (sendS j)) hsc)}
    (ht : ∀ h, t h = semWaitWord (credS j) 1#32 >>= fun _ =>
      Prog.op (α := α) (E := TpuEff nD τ sig (Elt F) Λ₀ .tc) (.enqueueDma tM (.remote (Dev.tc j : Thread nD τ) (rowM c) (.dma (sendS j)) hsc) (.dma (recvS c)) hsrc hdst hsem) fun _ => k) :
    iprop(ctx m ρ K ∗ sendIn c T j ∗ dues c (oRecv c (j :: l)))
      ⊢ iprop((sendOut c T j ∗ dues c (oRecv c l) -∗ wpc c k Q) -∗ wpc c (dite (b = 1#1) t fun _ => k) Q) := by
  unfold sendIn sendTok sendOut dues
  by_cases h : b = 1#1
  · have hj : c < j := hb.mp h
    obtain rfl := hT hj
    have hlc : Live c (0, j) := hj
    have hls : Live c (1, j) := hj
    have hlr : Live j (2, c) := hj
    rw [dif_pos h, if_pos hj, if_pos hj, ht h]
    simp only [semWaitWord, Prog.bind_op, Prog.bind_ret]
    iintro ⟨#Hc, ⟨⟨Hat, Hcr, Hts, Htr⟩, Hsrc⟩, ⟨%W, HO⟩⟩ Hk
    iapply (Rounds.wp_wait_rest_token 𝒱₀ ER (Rd m ρ) (c : Thread nD τ) none (κ := K (c, (0, j)))
        (wpE_semWait_eq 𝒱₀ (c : Thread nD τ) none Set.univ) (Set.mem_univ _) () (O := oRecv c (j :: l)) (W := W) (R := 0) (m := 0) (T := ∅)
        (by rw [Nat.zero_add, expect_live m ρ (kcell_cred c j) hlc]; rfl)) $$ [Hcr HO Hat]
    · isplitr; · iapply (ctx_inv m ρ K (kcell_cred c j)); iexact Hc
      isplitl [Hcr]; · iexact Hcr
      isplitl [HO]; · iexact HO
      isplitr
      · iapply (mayWait_cred c j (j :: l)); iapply (ctx_lev m ρ K); iexact Hc
      iexact Hat
    iintro ⟨HO, Hat, -, Hpay⟩
    ihave Hp := (Entails.of_eq (rest_live m ρ (kcell_cred c j) hlc)) $$ Hpay
    unfold pay
    icases Hp with ⟨%fd, Hrow⟩
    imod (close_done m ρ K (kcell_cred c j)) $$ [Hat] with Hz
    · isplitr; · iexact Hc
      iexact Hat
    unfold rowPts totPts
    iapply (Rounds.wp_send_pointsTo 𝒱₀ ER (Rd m ρ) (c : Thread nD τ) none (κ₁ := K (c, (1, j))) (κ₂ := K (j, (2, c)))
      (r₁ := 0) (r₂ := 0) (d₁ := ()) (d₂ := ()) (q := ShareLeaves.leaf 3 fullShare j) (fs := tot m ρ c) (fd := fd) (O₀ := oRecv c (j :: l))
      (duties_mem m ρ (kcell_send c j) hls) (duties_mem m ρ (kcell_recv j c) hlr)
      () () N (N_row c) (amount_at m ρ (kcell_send c j) ()) (amount_at m ρ (kcell_recv j c) ()) (oRecv c l)
      (by unfold oRecv; rw [List.map_cons, List.sum_cons, if_pos hj, add_comm])
      (by rw [payload_at m ρ (kcell_send c j)]; exact BI.Entails.refl _)
      (by rw [payload_at m ρ (kcell_recv j c)]; exact landed_row m ρ c j fd)) $$ [Hsrc Hrow HO Hts Htr]
    · isplitr; · iapply (ctx_inv m ρ K (kcell_send c j)); iexact Hc
      isplitr; · iapply (ctx_inv m ρ K (kcell_recv j c)); iexact Hc
      isplitl [Hsrc]; · iexact Hsrc
      isplitl [Hrow]; · iexact Hrow
      isplitl [HO]; · iexact HO
      isplitl [Hts]; · iexact Hts
      isplitr; · iapply (ctx_reached m ρ K (kcell_send c j)); iexact Hc
      isplitl [Htr]; · iexact Htr
      iapply (ctx_reached m ρ K (kcell_recv j c)); iexact Hc
    iintro ⟨Hcs, HO⟩
    iapply Hk
    isplitl [Hz Hcs]
    · isplitl [Hz] <;> iassumption
    iexists _; iexact HO
  · have hj : ¬c < j := fun h' => h (hb.mpr h')
    have hd : ¬Live c (0, j) := hj
    unfold oRecv
    rw [List.map_cons, List.sum_cons, dif_neg h, if_neg hj, if_neg hj, if_neg hj, zero_add]
    iintro ⟨#Hc, ⟨⟨Hat, -, -, -⟩, Hsrc⟩, HO⟩ Hk
    imod (close_dead m ρ K (kcell_cred c j) hd) $$ [Hat] with Hz
    · isplitr; · iexact Hc
      iexact Hat
    iapply Hk
    isplitl [Hz Hsrc]
    · isplitl [Hz] <;> iassumption
    iexact HO

/-! ### The wait for a landing -/

/-- Before the waits: the own receive semaphore with the credit the launch gives, and the rows kept. -/
def recvIn (j : Dev nD) : sProp 𝕄 :=
  iprop(atPos ER (recvC c j) 0 ∅ 0 ∗ cred (tallyAt (recvC c j) () (if j < c then N else 0)) ∗ sigOut c j)
/-- After the waits: every row is back, the rows of the earlier devices with their totals. -/
def recvOut (j : Dev nD) : sProp 𝕄 :=
  iprop(semVal (recvC c j) 0 ∗ ∃ f, ⌜j < c → f = allTot m ρ⌝ ∗ rowPts c j f)

/-- One receive, alone: wait for the row of device `j`, if `j` is earlier. -/
theorem recv_core {α : Type} {Q : α → sProp 𝕄} {j : Dev nD} {b : BitVec 1} (hb : b = 1#1 ↔ j < c)
    {t : b = 1#1 → Prog (TpuEff nD τ sig (Elt F) Λ₀ .tc) α} {k : Prog (TpuEff nD τ sig (Elt F) Λ₀ .tc) α}
    {hsrc : tM.view.WordExact} {hdst : (rowM j).view.WordExact}
    (ht : ∀ h, t h = Prog.op (.waitDma2 (recvS j) tM (rowM j) hsrc hdst) fun _ => k) :
    iprop(ctx m ρ K ∗ recvIn c j ∗ dues c 0)
      ⊢ iprop((recvOut m ρ c j ∗ dues c 0 -∗ wpc c k Q) -∗ wpc c (dite (b = 1#1) t fun _ => k) Q) := by
  unfold recvIn recvOut dues sigOut
  by_cases h : b = 1#1
  · have hj : j < c := hb.mp h
    have hl : Live c (2, j) := hj
    rw [dif_pos h, if_pos hj, if_pos hj, ht h]
    iintro ⟨#Hc, ⟨Hat, Hcr, -⟩, ⟨%W, HO⟩⟩ Hk
    iapply (Rounds.wp_wait_rest_token 𝒱₀ ER (Rd m ρ) (c : Thread nD τ) none (κ := K (c, (2, j)))
        (wpE_waitDma2_eq 𝒱₀ (c : Thread nD τ) none Set.univ) (Set.mem_univ _) () (O := 0) (W := W) (R := 0) (m := 0) (T := ∅)
        (by rw [Nat.zero_add, expect_live m ρ (kcell_recv c j) hl]; rfl)) $$ [Hcr HO Hat]
    · isplitr; · iapply (ctx_inv m ρ K (kcell_recv c j)); iexact Hc
      isplitl [Hcr]; · iexact Hcr
      isplitl [HO]; · iexact HO
      isplitr; · rw [MayWait_zero]; iempintro
      iexact Hat
    iintro ⟨HO, Hat, -, Hpay⟩
    ihave Hp := (Entails.of_eq (rest_live m ρ (kcell_recv c j) hl)) $$ Hpay
    unfold pay
    imod (close_done m ρ K (kcell_recv c j)) $$ [Hat] with Hz
    · isplitr; · iexact Hc
      iexact Hat
    iapply Hk
    isplitl [Hz Hp]
    · isplitl [Hz]; · iexact Hz
      iexists (allTot m ρ)
      isplitr; · ipureintro; exact fun _ => rfl
      iexact Hp
    iexists _; iexact HO
  · have hj : ¬j < c := fun h' => h (hb.mpr h')
    have hd : ¬Live c (2, j) := hj
    rw [dif_neg h, if_neg hj, if_neg hj]
    iintro ⟨#Hc, ⟨Hat, -, ⟨%f, Hrow⟩⟩, HO⟩ Hk
    imod (close_dead m ρ K (kcell_recv c j) hd) $$ [Hat] with Hz
    · isplitr; · iexact Hc
      iexact Hat
    iapply Hk
    isplitl [Hz Hrow]
    · isplitl [Hz]; · iexact Hz
      iexists f
      isplitr; · ipureintro; exact fun h' => absurd h' hj
      iexact Hrow
    iexact HO

/-! ### The wait for a copy's source -/

/-- Before the waits: the own send semaphore, and what the copies left. -/
def drainIn (T : (cc0_scratch0 : Ref sig .tc).ty.Contents (Elt F)) (j : Dev nD) : sProp 𝕄 :=
  iprop(atPos ER (sendC c j) 0 ∅ 0 ∗ if c < j then iprop(cred (tallyAt (sendC c j) () N)) else totPts c j T)
/-- After the waits: every share of the total is back. -/
def drainOut (T : (cc0_scratch0 : Ref sig .tc).ty.Contents (Elt F)) (j : Dev nD) : sProp 𝕄 :=
  iprop(semVal (sendC c j) 0 ∗ totPts c j T)

/-- One last wait, alone: the copy to device `j` has ended, and its share of the totals is back. -/
theorem drain_core {α : Type} {Q : α → sProp 𝕄} {j : Dev nD} {T : (cc0_scratch0 : Ref sig .tc).ty.Contents (Elt F)} (hT : c < j → T = tot m ρ c)
    {b : BitVec 1} (hb : b = 1#1 ↔ c < j)
    {t : b = 1#1 → Prog (TpuEff nD τ sig (Elt F) Λ₀ .tc) α} {k : Prog (TpuEff nD τ sig (Elt F) Λ₀ .tc) α}
    {hsrc : (rowM c).view.WordExact} {hdst : tM.view.WordExact}
    (ht : ∀ h, t h = Prog.op (.waitDma2 (sendS j) (rowM c) tM hsrc hdst) fun _ => k) :
    iprop(ctx m ρ K ∗ drainIn c T j ∗ dues c 0)
      ⊢ iprop((drainOut c T j ∗ dues c 0 -∗ wpc c k Q) -∗ wpc c (dite (b = 1#1) t fun _ => k) Q) := by
  unfold drainIn drainOut dues
  by_cases h : b = 1#1
  · have hj : c < j := hb.mp h
    obtain rfl := hT hj
    have hl : Live c (1, j) := hj
    rw [dif_pos h, if_pos hj, ht h]
    iintro ⟨#Hc, ⟨Hat, Hcr⟩, ⟨%W, HO⟩⟩ Hk
    iapply (Rounds.wp_wait_rest_token 𝒱₀ ER (Rd m ρ) (c : Thread nD τ) none (κ := K (c, (1, j)))
        (wpE_waitDma2_eq 𝒱₀ (c : Thread nD τ) none Set.univ) (Set.mem_univ _) () (O := 0) (W := W) (R := 0) (m := 0) (T := ∅)
        (by rw [Nat.zero_add, expect_live m ρ (kcell_send c j) hl]; rfl)) $$ [Hcr HO Hat]
    · isplitr; · iapply (ctx_inv m ρ K (kcell_send c j)); iexact Hc
      isplitl [Hcr]; · iexact Hcr
      isplitl [HO]; · iexact HO
      isplitr; · rw [MayWait_zero]; iempintro
      iexact Hat
    iintro ⟨HO, Hat, -, Hpay⟩
    ihave Hp := (Entails.of_eq (rest_live m ρ (kcell_send c j) hl)) $$ Hpay
    unfold pay
    imod (close_done m ρ K (kcell_send c j)) $$ [Hat] with Hz
    · isplitr; · iexact Hc
      iexact Hat
    iapply Hk
    isplitl [Hz Hp]
    · isplitl [Hz] <;> iassumption
    iexists _; iexact HO
  · have hj : ¬c < j := fun h' => h (hb.mpr h')
    have hd : ¬Live c (1, j) := hj
    rw [dif_neg h, if_neg hj]
    iintro ⟨#Hc, ⟨Hat, Hsrc⟩, HO⟩ Hk
    imod (close_dead m ρ K (kcell_send c j) hd) $$ [Hat] with Hz
    · isplitr; · iexact Hc
      iexact Hat
    iapply Hk
    isplitl [Hz Hsrc]
    · isplitl [Hz] <;> iassumption
    iexact HO

/-! ### Before and after a run of steps -/

/-- A run over all devices begins with every device to do. -/
theorem phase_start {In Out : Dev nD → sProp 𝕄} {O : List (Dev nD) → CellTallies nD τ sig Unit} {R : sProp 𝕄} {l : List (Dev nD)}
    (h : Finset.univ = l.toFinset) (hl : l.Nodup) :
    iprop(ctx m ρ K ∗ bigSep Finset.univ In ∗ dues c (O l) ∗ R) ⊢ phase m ρ K c In Out O R l [] := by
  unfold phase
  rw [bigSep_univ_eq_bigSepL l h hl, bigSepL_nil]
  iintro ⟨Hc, HI, HO, HR⟩
  isplitl [Hc]; · iexact Hc
  isplitl [HR]; · iexact HR
  isplitl [HI]; · iexact HI
  isplitr; · iempintro
  iexact HO

/-- It ends with every device done. -/
theorem phase_end {In Out : Dev nD → sProp 𝕄} {O : List (Dev nD) → CellTallies nD τ sig Unit} {R : sProp 𝕄} {d : List (Dev nD)}
    (h : Finset.univ = d.toFinset) (hd : d.Nodup) :
    phase m ρ K c In Out O R [] d ⊢ iprop(bigSep Finset.univ Out ∗ dues c (O []) ∗ R) := by
  unfold phase
  rw [bigSep_univ_eq_bigSepL d h hd, bigSepL_nil]
  iintro ⟨-, HR, -, Hd, HO⟩
  isplitl [Hd]; · iexact Hd
  isplitl [HO] <;> iassumption

end Step

end Cert.Prefix

end
-- ==== Proof.Part1.lean ====
/-
The kernel's body, part by part: each run of eight branches is eight uses of one step lemma.
-/
module

public import proofs.«01_k».proof.Proof.Steps

@[expose] public section

set_option maxRecDepth 16384

noncomputable section

namespace Cert.Prefix

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The branches' conditions -/

/-- The word the kernel computes its own number as. -/
abbrev myW (c : Dev nD) : BitVec 32 := Scalar.remsi (Scalar.divsi (Dev.word c) 1#32) 8#32

theorem cond1 : ∀ c : Dev nD, k0_cond1 c = 1#1 ↔ (0 : Dev nD) < c := by decide +kernel
theorem cond2 : ∀ c : Dev nD, k0_cond2 c = 1#1 ↔ (1 : Dev nD) < c := by decide +kernel
theorem cond3 : ∀ c : Dev nD, k0_cond3 c = 1#1 ↔ (2 : Dev nD) < c := by decide +kernel
theorem cond4 : ∀ c : Dev nD, k0_cond4 c = 1#1 ↔ (3 : Dev nD) < c := by decide +kernel
theorem cond5 : ∀ c : Dev nD, k0_cond5 c = 1#1 ↔ (4 : Dev nD) < c := by decide +kernel
theorem cond6 : ∀ c : Dev nD, k0_cond6 c = 1#1 ↔ (5 : Dev nD) < c := by decide +kernel
theorem cond7 : ∀ c : Dev nD, k0_cond7 c = 1#1 ↔ (6 : Dev nD) < c := by decide +kernel
theorem cond8 : ∀ c : Dev nD, k0_cond8 c = 1#1 ↔ (7 : Dev nD) < c := by decide +kernel
theorem cond10 : ∀ c : Dev nD, k0_cond10 c = 1#1 ↔ c < (7 : Dev nD) := by decide +kernel
theorem cond11 : ∀ c : Dev nD, k0_cond11 c = 1#1 ↔ c < (6 : Dev nD) := by decide +kernel
theorem cond12 : ∀ c : Dev nD, k0_cond12 c = 1#1 ↔ c < (5 : Dev nD) := by decide +kernel
theorem cond13 : ∀ c : Dev nD, k0_cond13 c = 1#1 ↔ c < (4 : Dev nD) := by decide +kernel
theorem cond14 : ∀ c : Dev nD, k0_cond14 c = 1#1 ↔ c < (3 : Dev nD) := by decide +kernel
theorem cond15 : ∀ c : Dev nD, k0_cond15 c = 1#1 ↔ c < (2 : Dev nD) := by decide +kernel
theorem cond16 : ∀ c : Dev nD, k0_cond16 c = 1#1 ↔ c < (1 : Dev nD) := by decide +kernel
theorem cond17 : ∀ c : Dev nD, k0_cond17 c = 1#1 ↔ c < (0 : Dev nD) := by decide +kernel
theorem cond26 : ∀ c : Dev nD, k0_cond26 c = 1#1 ↔ c < (0 : Dev nD) := by decide +kernel
theorem cond27 : ∀ c : Dev nD, k0_cond27 c = 1#1 ↔ c < (1 : Dev nD) := by decide +kernel
theorem cond28 : ∀ c : Dev nD, k0_cond28 c = 1#1 ↔ c < (2 : Dev nD) := by decide +kernel
theorem cond29 : ∀ c : Dev nD, k0_cond29 c = 1#1 ↔ c < (3 : Dev nD) := by decide +kernel
theorem cond30 : ∀ c : Dev nD, k0_cond30 c = 1#1 ↔ c < (4 : Dev nD) := by decide +kernel
theorem cond31 : ∀ c : Dev nD, k0_cond31 c = 1#1 ↔ c < (5 : Dev nD) := by decide +kernel
theorem cond32 : ∀ c : Dev nD, k0_cond32 c = 1#1 ↔ c < (6 : Dev nD) := by decide +kernel
theorem cond33 : ∀ c : Dev nD, k0_cond33 c = 1#1 ↔ c < (7 : Dev nD) := by decide +kernel
/-- Whether a device has a later one to send its total to. -/
theorem cond_store : ∀ c : Dev nD, Scalar.cmpi .ne (Scalar.extui (Scalar.cmpi .slt (myW c) 7#32) : BitVec 32) 0#32 = 1#1 ↔ c < (7 : Dev nD) := by decide +kernel
/-- Whether a device has a total of device `j` to wait for. -/
theorem cond_recv : ∀ c j : Dev nD, Scalar.cmpi .ne (Scalar.extui (Scalar.cmpi .sgt (myW c) (BitVec.ofNat 32 j.val)) : BitVec 32) 0#32 = 1#1 ↔ j < c := by
  decide +kernel

section Parts

variable (K : Dev nD × Slot → ℕ) (c : Dev nD)

/-- Device `c`'s block of the argument in its staging buffer. -/
def xPts : sProp 𝕄 := ((c : Thread nD τ).loc cc0_stg0_0) ↦{fullShare} xstg m ρ c

theorem hz : (![0, 0] : Fin 2 → Nat) = fun _ => 0 := funext fun a => by fin_cases a <;> rfl

/-- An operation followed by the rest. -/
theorem lift_bind {α β : Type} (e : TpuEff nD τ sig (Elt F) Λ₀ .tc β) (f : β → Prog (TpuEff nD τ sig (Elt F) Λ₀ .tc) α) :
    Prog.lift e >>= f = .op e f := rfl

/-- Reading the device's number. -/
theorem wp_dev {α : Type} {Q : α → sProp 𝕄} (f : Dev nD → Prog (TpuEff nD τ sig (Elt F) Λ₀ .tc) α) :
    wpc c (Prog.lift .deviceId >>= f) Q = wpc c (f c) Q := wp_deviceId 𝒱₀ (c : Thread nD τ) none Set.univ

/-! ### Part 1: the rows are signalled -/

/-- The signal as the program writes it. -/
theorem sig_text {α : Type} {c j n : Dev nD} {off : Fin 1 → Nat} (hin : ∀ a, off a + S1.size a ≤ S8.size a) (hoff : off = ![c.val]) (hn : n = j)
    {k : Prog (TpuEff nD τ sig (Elt F) Λ₀ .tc) α} :
    (semSignalWord n (((cc0_scratch2 : Sems sig S8).slice (Rect.unit (s := S8) off S1.size hin)).squeeze S_ squeezes_S1_S_).sem 1#32 >>= fun _ => k)
      = (semSignalWord j (credS c) 1#32 >>= fun _ => k) := by
  subst hoff hn; rfl

/-- One branch of the credits: device `j` is signalled if it is earlier, and nothing happens if not. -/
theorem sig_step {α : Type} {Q : α → sProp 𝕄} {R : sProp 𝕄} {O : CellTallies nD τ sig Unit} {j : Dev nD} {l d : List (Dev nD)} {b : BitVec 1}
    (hb : b = 1#1 ↔ j < c) {t : b = 1#1 → Prog (TpuEff nD τ sig (Elt F) Λ₀ .tc) α} {k : Prog (TpuEff nD τ sig (Elt F) Λ₀ .tc) α}
    (ht : ∀ h, t h = semSignalWord j (credS c) 1#32 >>= fun _ => k)
    (hk : phase m ρ K c (sigIn c) (sigOut c) (fun l => oCred c l + O) R l (j :: d) ⊢ wpc c k Q) :
    phase m ρ K c (sigIn c) (sigOut c) (fun l => oCred c l + O) R (j :: l) d ⊢ wpc c (dite (b = 1#1) t fun _ => k) Q :=
  phase_step m ρ K c (sig_core m ρ K c hb ht) hk

set_option maxHeartbeats 4000000 in
/-- Part 1: the own rows of the earlier devices are signalled to them, and the block is loaded. -/
theorem part1_spec {Q : (Σ' (d0 : Dev nD) (v2 : BitVec 32) (v28 : FVec F S1024x512 .f32), BitVec 1) → sProp 𝕄} :
    iprop(ctx m ρ K ∗ bigSep Finset.univ (sigIn c) ∗ dues c (O₀ c) ∗ xPts m ρ c
        ∗ ((bigSep Finset.univ (sigOut c) ∗ dues c (oRecv c down) ∗ xPts m ρ c)
          -∗ Q ⟨c, myW c, k0_pay2 (xstg m ρ c), Scalar.cmpi .slt (myW c) 7#32⟩))
      ⊢ wpc c (k0_part1 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            cc0_scratch2 cc0_scratch3 cc0_scratch4) Q := by
  rw [k0_part1_eq_skeleton]
  unfold k0_part1_skel
  rw [wp_dev]
  refine (phase_start m ρ K c (Out := sigOut c) (O := fun l => oCred c l + oRecv c down) (l := up) (by decide) (by decide)).trans ?_
  refine sig_step m ρ K c (cond1 c) ?_ ?_
  · exact fun h => sig_text (k0_off1_inb c h) (k0_off1_eq c) (Fin.ext k0_dev1_eq)
  refine sig_step m ρ K c (cond2 c) ?_ ?_
  · exact fun h => sig_text (k0_off2_inb c h) (k0_off2_eq c) (Fin.ext k0_dev2_eq)
  refine sig_step m ρ K c (cond3 c) ?_ ?_
  · exact fun h => sig_text (k0_off3_inb c h) (k0_off3_eq c) (Fin.ext k0_dev3_eq)
  refine sig_step m ρ K c (cond4 c) ?_ ?_
  · exact fun h => sig_text (k0_off4_inb c h) (k0_off4_eq c) (Fin.ext k0_dev4_eq)
  refine sig_step m ρ K c (cond5 c) ?_ ?_
  · exact fun h => sig_text (k0_off5_inb c h) (k0_off5_eq c) (Fin.ext k0_dev5_eq)
  refine sig_step m ρ K c (cond6 c) ?_ ?_
  · exact fun h => sig_text (k0_off6_inb c h) (k0_off6_eq c) (Fin.ext k0_dev6_eq)
  refine sig_step m ρ K c (cond7 c) ?_ ?_
  · exact fun h => sig_text (k0_off7_inb c h) (k0_off7_eq c) (Fin.ext k0_dev7_eq)
  refine sig_step m ρ K c (cond8 c) ?_ ?_
  · exact fun h => sig_text (k0_off8_inb c h) (k0_off8_eq c) (Fin.ext k0_dev8_eq)
  refine (phase_end m ρ K c (d := down) (by decide) (by decide)).trans ?_
  beta_reduce
  rw [lift_bind]
  iintro ⟨HS, HO, HX, Hk⟩
  unfold xPts
  iapply (wp_load 𝒱₀ (c : Thread nD τ) none Set.univ (m := xM) (Finset.subset_univ _)) $$ HX
  iintro HX
  rw [show (xM : Memref sig .tc .vmem S1024x512 .f32).view.readAt (Elt F) _ (xstg m ρ c) = xstg m ρ c from
    Memref.readAt_unit_zero (Elt F) cc0_stg0_0 hz _ _]
  rw [Prog.pure_eq_ret, wp_ret]; imodintro
  iapply Hk
  isplitl [HS]; · iexact HS
  isplitl [HO]; · iapply (Entails.of_eq (congrArg (dues c) (zero_add (oRecv c down)))); iexact HO
  iexact HX

end Parts

end Cert.Prefix

end
-- ==== Proof.Part2.lean ====
/-
The kernel's body, part by part: each run of eight branches is eight uses of one step lemma.
-/
module

public import proofs.«01_k».proof.Proof.Part1

@[expose] public section

set_option maxRecDepth 16384

noncomputable section

namespace Cert.Prefix

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Parts

variable (K : Dev nD × Slot → Nat) (c : Dev nD)

/-! ### Part 2: the total is stored and sent -/

/-- The total's buffer, whole. -/
def totW (f : (cc0_scratch0 : Ref sig .tc).ty.Contents (Elt F)) : sProp 𝕄 := ((c : Thread nD τ).loc cc0_scratch0) ↦{fullShare} f

/-- The whole of the total's buffer as a rectangle. -/
abbrev rT : Rect S1x512 := Rect.unit (s := S1x512) ![0, 0] S1x512.size inb_S1x512_S1x512_0_0

/-- The total is stored by every device but the last. -/
theorem store_step {α : Type} {Q : α → sProp 𝕄} {R : sProp 𝕄} {b : BitVec 1} (hb : b = 1#1 ↔ c < (7 : Dev nD))
    {t : b = 1#1 → Prog (TpuEff nD τ sig (Elt F) Λ₀ .tc) α} {k : Prog (TpuEff nD τ sig (Elt F) Λ₀ .tc) α}
    {hl hx hm} (ht : ∀ h, t h = Prog.lift (.load tM rT.toLoadRect hl) >>= fun _ =>
      Prog.lift (.store tM rT (tot m ρ c) Finset.univ hx hm) >>= fun _ => k)
    (hk : ∀ T, (c < (7 : Dev nD) → T = tot m ρ c) → iprop(totW c T ∗ R) ⊢ wpc c k Q) :
    iprop((∃ f, totW c f) ∗ R) ⊢ wpc c (dite (b = 1#1) t fun _ => k) Q := by
  iintro ⟨⟨%f, Ht⟩, HR⟩
  by_cases h : b = 1#1
  · rw [dif_pos h, ht h, lift_bind]
    unfold totW
    iapply (wp_load 𝒱₀ (c : Thread nD τ) none Set.univ (m := tM) (Finset.subset_univ _)) $$ Ht
    iintro Ht
    rw [lift_bind]
    iapply (wp_store 𝒱₀ (c : Thread nD τ) none Set.univ (m := tM) (r := rT) (Mk := Finset.univ) (Finset.subset_univ _)) $$ Ht
    iintro Ht
    rw [show (tM.access rT : View sig .tc _ _ _).write (Elt F) f (tot m ρ c) Finset.univ
      = tot m ρ c from Memref.write_access_unit_zero_univ (Elt F) cc0_scratch0 hz _ f _]
    have hk' := hk (tot m ρ c) fun _ => rfl
    unfold totW at hk'
    iapply hk'
    isplitl [Ht] <;> iassumption
  · rw [dif_neg h]
    iapply (hk f fun h' => absurd (hb.mpr h') h)
    isplitl [Ht] <;> iassumption

/-- The copy of the own total to device `j`. -/
abbrev copyOp (c j : Dev nD) : TpuEff nD τ sig (Elt F) Λ₀ .tc PUnit :=
  TpuEff.enqueueDma (p := .tc) tM (.remote (Dev.tc j) (rowM c) (.dma (sendS j))) (.dma (recvS c)) (Memref.isWhole_whole cc0_scratch0).wordExact
    (View.wordExact_bits rfl) ⟨⟨rfl, Or.inl rfl⟩, trivial⟩

/-- The wait for the credit and the copy, as the program writes them. -/
theorem send_text {α : Type} {c j n : Dev nD} {o o₁ : Fin 1 → Nat} {o₂ : Fin 2 → Nat} (hi₁ : ∀ a, o a + S1.size a ≤ S8.size a)
    (hi₂ : ∀ a, o a + S1.size a ≤ S8.size a)
    (hi₃ : ∀ a, o₁ a + S1.size a ≤ S8.size a) (hi₄ : ∀ a, o₂ a + S1x512.size a ≤ S8x512.size a)
    (ho : o = ![j.val]) (ho₁ : o₁ = ![c.val]) (ho₂ : o₂ = ![c.val, 0]) (hn : n = j) {hsrc hdst hsem}
    {k : Prog (TpuEff nD τ sig (Elt F) Λ₀ .tc) α} :
    (semWaitWord (((cc0_scratch2 : Sems sig S8).slice (Rect.unit (s := S8) o S1.size hi₁)).squeeze S_ squeezes_S1_S_).sem 1#32 >>= fun _ =>
      (Prog.lift (TpuEff.enqueueDma (p := .tc) tM (.remote (Dev.tc n) (rM.slice (Rect.unit (s := S8x512) o₂ S1x512.size hi₄) (fun _ => rfl))
          (.dma (((cc0_scratch3 : DmaSems sig S8).slice (Rect.unit (s := S8) o S1.size hi₂)).squeeze S_ squeezes_S1_S_).sem))
        (.dma (((cc0_scratch4 : DmaSems sig S8).slice (Rect.unit (s := S8) o₁ S1.size hi₃)).squeeze S_ squeezes_S1_S_).sem) hsrc hdst hsem) >>= fun _ => k))
      = (semWaitWord (credS j) 1#32 >>= fun _ => Prog.op (copyOp c j) fun _ => k) := by
  subst ho ho₁ ho₂ hn; rfl

/-- One branch of the sends, in the run over all devices. -/
theorem send_step {α : Type} {Q : α → sProp 𝕄} {R : sProp 𝕄} {j : Dev nD} {l d : List (Dev nD)} {T : (cc0_scratch0 : Ref sig .tc).ty.Contents (Elt F)}
    (hT : ∀ j, c < j → T = tot m ρ c) {b : BitVec 1}
    (hb : b = 1#1 ↔ c < j) {t : b = 1#1 → Prog (TpuEff nD τ sig (Elt F) Λ₀ .tc) α} {k : Prog (TpuEff nD τ sig (Elt F) Λ₀ .tc) α}
    (ht : ∀ h, t h = semWaitWord (credS j) 1#32 >>= fun _ => Prog.op (copyOp c j) fun _ => k)
    (hk : phase m ρ K c (sendIn c T) (sendOut c T) (oRecv c) R l (j :: d) ⊢ wpc c k Q) :
    phase m ρ K c (sendIn c T) (sendOut c T) (oRecv c) R (j :: l) d ⊢ wpc c (dite (b = 1#1) t fun _ => k) Q :=
  phase_step m ρ K c (send_core m ρ K c (hT j) hb ht) hk

theorem lt_last {c j : Dev nD} (h : c < j) : c < (7 : Dev nD) := by revert c j; decide

/-- The whole of the total's buffer is its eight shares. -/
theorem totW_shares (T : (cc0_scratch0 : Ref sig .tc).ty.Contents (Elt F)) : totW c T = bigSep Finset.univ fun j => totPts c j T := by
  refine (ShareLeaves.pointsTo_leaves (ℓ := (c : Thread nD τ).loc cc0_scratch0) Finset.univ T 3 fullShare).trans ?_
  refine bigSep_congr fun j _ => ?_
  unfold totPts
  rw [show (tM : Memref sig .tc .vmem S1x512 .f32).view.set = Finset.univ from View.set_whole _]

set_option maxHeartbeats 4000000 in
/-- Part 2: the total is stored if it is to be sent, and sent to each later device once its credit has come. -/
theorem part2_spec {Q : PUnit → sProp 𝕄} :
    iprop((∃ f, totW c f) ∗ ctx m ρ K ∗ bigSep Finset.univ (sendTok c) ∗ dues c (oRecv c down)
        ∗ (∀ T, ⌜∀ j, c < j → T = tot m ρ c⌝ -∗ (bigSep Finset.univ (sendOut c T) ∗ dues c 0) -∗ Q ⟨⟩))
      ⊢ wpc c (k0_part2 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            cc0_scratch2 cc0_scratch3 cc0_scratch4
            c (myW c) (k0_pay2 (xstg m ρ c)) (Scalar.cmpi .slt (myW c) 7#32)) Q := by
  rw [k0_part2_eq_skeleton]
  unfold k0_part2_skel
  refine store_step m ρ c (cond_store c) (fun h => rfl) fun T hT => ?_
  have hT' : ∀ j, c < j → T = tot m ρ c := fun j h => hT (lt_last h)
  have hstart : iprop(totW c T ∗ ctx m ρ K ∗ bigSep Finset.univ (sendTok c) ∗ dues c (oRecv c down)
        ∗ (∀ T, ⌜∀ j, c < j → T = tot m ρ c⌝ -∗ (bigSep Finset.univ (sendOut c T) ∗ dues c 0) -∗ Q ⟨⟩))
      ⊢ iprop(ctx m ρ K ∗ bigSep Finset.univ (sendIn c T) ∗ dues c (oRecv c down)
        ∗ (∀ T, ⌜∀ j, c < j → T = tot m ρ c⌝ -∗ (bigSep Finset.univ (sendOut c T) ∗ dues c 0) -∗ Q ⟨⟩)) := by
    unfold sendIn
    rw [totW_shares, bigSep_sep']
    iintro ⟨Ht, Hc, Hs, HO, Hk⟩
    isplitl [Hc]; · iexact Hc
    isplitl [Hs Ht]
    · isplitl [Hs] <;> iassumption
    isplitl [HO] <;> iassumption
  refine hstart.trans ?_
  refine (phase_start m ρ K c (Out := sendOut c T) (O := oRecv c) (l := down) (by decide) (by decide)).trans ?_
  refine send_step m ρ K c hT' (cond10 c) ?_ ?_
  · exact fun h => send_text (j := 7) (o := ![7]) _ _ _ _ rfl (k0_off9_eq c) (k0_off10_eq c) (Fin.ext k0_dev9_eq)
  refine send_step m ρ K c hT' (cond11 c) ?_ ?_
  · exact fun h => send_text (j := 6) (o := ![6]) _ _ _ _ rfl (k0_off11_eq c) (k0_off12_eq c) (Fin.ext k0_dev10_eq)
  refine send_step m ρ K c hT' (cond12 c) ?_ ?_
  · exact fun h => send_text (j := 5) (o := ![5]) _ _ _ _ rfl (k0_off13_eq c) (k0_off14_eq c) (Fin.ext k0_dev11_eq)
  refine send_step m ρ K c hT' (cond13 c) ?_ ?_
  · exact fun h => send_text (j := 4) (o := ![4]) _ _ _ _ rfl (k0_off15_eq c) (k0_off16_eq c) (Fin.ext k0_dev12_eq)
  refine send_step m ρ K c hT' (cond14 c) ?_ ?_
  · exact fun h => send_text (j := 3) (o := ![3]) _ _ _ _ rfl (k0_off17_eq c) (k0_off18_eq c) (Fin.ext k0_dev13_eq)
  refine send_step m ρ K c hT' (cond15 c) ?_ ?_
  · exact fun h => send_text (j := 2) (o := ![2]) _ _ _ _ rfl (k0_off19_eq c) (k0_off20_eq c) (Fin.ext k0_dev14_eq)
  refine send_step m ρ K c hT' (cond16 c) ?_ ?_
  · exact fun h => send_text (j := 1) (o := ![1]) _ _ _ _ rfl (k0_off21_eq c) (k0_off22_eq c) (Fin.ext k0_dev15_eq)
  refine send_step m ρ K c hT' (cond17 c) ?_ ?_
  · exact fun h => send_text (j := 0) (o := ![0]) _ _ _ _ rfl (k0_off23_eq c) (k0_off24_eq c) (Fin.ext k0_dev16_eq)
  refine (phase_end m ρ K c (d := up) (by decide) (by decide)).trans ?_
  beta_reduce
  iintro ⟨HS, HO, Hk⟩
  unfold wpc; rw [Prog.pure_eq_ret, wp_ret]; imodintro
  iapply Hk $$ %T %hT'
  isplitl [HS]; · iexact HS
  iapply (Entails.of_eq (congrArg (dues c) (show oRecv c [] = 0 from rfl))); iexact HO

end Parts

end Cert.Prefix

end
-- ==== Proof.Part3.lean ====
/-
The kernel's body, part by part: each run of eight branches is eight uses of one step lemma.
-/
module

public import proofs.«01_k».proof.Proof.Part1

@[expose] public section

set_option maxRecDepth 16384

noncomputable section

namespace Cert.Prefix

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Parts

variable (K : Dev nD × Slot → Nat) (c : Dev nD)

/-! ### Part 3: the running products of the block are stored -/

/-- The result's staging buffer. -/
def outPts (f : (cc0_stg1_0 : Ref sig .tc).ty.Contents (Elt F)) : sProp 𝕄 := ((c : Thread nD τ).loc cc0_stg1_0) ↦{fullShare} f

/-- The whole of it as a rectangle. -/
abbrev rO : Rect S1024x512 := Rect.unit (s := S1024x512) ![0, 0] S1024x512.size inb_S1024x512_S1024x512_0_0

/-- A load of the whole result reads its contents. -/
theorem read_out (f : (cc0_stg1_0 : Ref sig .tc).ty.Contents (Elt F)) :
    (oM : Memref sig .tc .vmem S1024x512 .f32).view.readAt (Elt F) rO.toLoadRect f = f :=
  Memref.readAt_unit_zero (Elt F) cc0_stg1_0 hz _ f
/-- A store over the whole result leaves what was stored. -/
theorem write_out (f w : (cc0_stg1_0 : Ref sig .tc).ty.Contents (Elt F)) :
    (oM.access rO : View sig .tc _ _ _).write (Elt F) f w Finset.univ = w :=
  Memref.write_access_unit_zero_univ (Elt F) cc0_stg1_0 hz _ f w

/-- The third part: the device's own prefix products go into the result. -/
theorem part3_spec {Q : (Σ' (v98 : BitVec 32), BitVec 32) → sProp 𝕄} (v28 : FVec F S1024x512 .f32) :
    iprop((∃ f, outPts c f) ∗ (outPts c (k0_pay4 v28) -∗ Q ⟨Scalar.extui (Scalar.cmpi .sgt (myW c) 7#32), 0#32⟩))
      ⊢ wpc c (k0_part3 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            cc0_scratch2 cc0_scratch3 cc0_scratch4
            (myW c) v28) Q := by
  rw [k0_part3_eq_skeleton]
  unfold k0_part3_skel outPts
  iintro ⟨⟨%f, Ho⟩, Hk⟩
  rw [lift_bind]
  iapply (wp_load 𝒱₀ (c : Thread nD τ) none Set.univ (m := oM) (Finset.subset_univ _)) $$ Ho
  iintro Ho
  rw [lift_bind]
  iapply (wp_store 𝒱₀ (c : Thread nD τ) none Set.univ (m := oM) (r := rO) (Mk := Finset.univ) (Finset.subset_univ _)) $$ Ho
  iintro Ho
  rw [write_out, Prog.pure_eq_ret, wp_ret]; imodintro
  iapply Hk
  iexact Ho

/-! ### Part 4: the totals of the earlier devices are awaited -/

/-- The wait for a landing as the program writes it. -/
theorem recv_text {α : Type} {j : Dev nD} {o₁ : Fin 1 → Nat} {o₂ : Fin 2 → Nat} (hi₁ : ∀ a, o₁ a + S1.size a ≤ S8.size a)
    (hi₂ : ∀ a, o₂ a + S1x512.size a ≤ S8x512.size a) (ho₁ : o₁ = ![j.val]) (ho₂ : o₂ = ![j.val, 0]) {hsrc hdst} {k : Prog (TpuEff nD τ sig (Elt F) Λ₀ .tc) α} :
    (Prog.lift (TpuEff.waitDma2 (p := .tc) (((cc0_scratch4 : DmaSems sig S8).slice (Rect.unit (s := S8) o₁ S1.size hi₁)).squeeze S_ squeezes_S1_S_).sem tM
        (rM.slice (Rect.unit (s := S8x512) o₂ S1x512.size hi₂) (fun _ => rfl)) hsrc hdst) >>= fun _ => k)
      = Prog.op (.waitDma2 (recvS j) tM (rowM j) (Memref.isWhole_whole cc0_scratch0).wordExact (View.wordExact_bits rfl)) fun _ => k := by
  subst ho₁ ho₂; rfl

/-- One branch of the receives, in the run over all devices. -/
theorem recv_step {α : Type} {Q : α → sProp 𝕄} {R : sProp 𝕄} {j : Dev nD} {l d : List (Dev nD)} {b : BitVec 1}
    (hb : b = 1#1 ↔ j < c) {t : b = 1#1 → Prog (TpuEff nD τ sig (Elt F) Λ₀ .tc) α} {k : Prog (TpuEff nD τ sig (Elt F) Λ₀ .tc) α}
    (ht : ∀ h, t h = Prog.op (.waitDma2 (recvS j) tM (rowM j) (Memref.isWhole_whole cc0_scratch0).wordExact (View.wordExact_bits rfl)) fun _ => k)
    (hk : phase m ρ K c (recvIn c) (recvOut m ρ c) (fun _ => 0) R l (j :: d) ⊢ wpc c k Q) :
    phase m ρ K c (recvIn c) (recvOut m ρ c) (fun _ => 0) R (j :: l) d ⊢ wpc c (dite (b = 1#1) t fun _ => k) Q :=
  phase_step m ρ K c (recv_core m ρ K c hb ht) hk

set_option maxHeartbeats 4000000 in
/-- Part 4: each earlier device's total is awaited; every row is back. -/
theorem part4_spec {Q : BitVec 1 → sProp 𝕄} :
    iprop(ctx m ρ K ∗ bigSep Finset.univ (recvIn c) ∗ dues c 0
        ∗ ((bigSep Finset.univ (recvOut m ρ c) ∗ dues c 0) -∗ Q (Scalar.cmpi .slt (myW c) 0#32)))
      ⊢ wpc c (k0_part4 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            cc0_scratch2 cc0_scratch3 cc0_scratch4
            (myW c) (Scalar.extui (Scalar.cmpi .sgt (myW c) 7#32)) 0#32) Q := by
  rw [k0_part4_eq_skeleton]
  unfold k0_part4_skel
  refine (phase_start m ρ K c (Out := recvOut m ρ c) (O := fun _ => 0) (l := down) (by decide) (by decide)).trans ?_
  refine recv_step m ρ K c (cond_recv c 7) ?_ ?_
  · exact fun h => recv_text (j := 7) (o₁ := ![7]) (o₂ := ![7, 0]) _ _ rfl rfl
  refine recv_step m ρ K c (cond_recv c 6) ?_ ?_
  · exact fun h => recv_text (j := 6) (o₁ := ![6]) (o₂ := ![6, 0]) _ _ rfl rfl
  refine recv_step m ρ K c (cond_recv c 5) ?_ ?_
  · exact fun h => recv_text (j := 5) (o₁ := ![5]) (o₂ := ![5, 0]) _ _ rfl rfl
  refine recv_step m ρ K c (cond_recv c 4) ?_ ?_
  · exact fun h => recv_text (j := 4) (o₁ := ![4]) (o₂ := ![4, 0]) _ _ rfl rfl
  refine recv_step m ρ K c (cond_recv c 3) ?_ ?_
  · exact fun h => recv_text (j := 3) (o₁ := ![3]) (o₂ := ![3, 0]) _ _ rfl rfl
  refine recv_step m ρ K c (cond_recv c 2) ?_ ?_
  · exact fun h => recv_text (j := 2) (o₁ := ![2]) (o₂ := ![2, 0]) _ _ rfl rfl
  refine recv_step m ρ K c (cond_recv c 1) ?_ ?_
  · exact fun h => recv_text (j := 1) (o₁ := ![1]) (o₂ := ![1, 0]) _ _ rfl rfl
  refine recv_step m ρ K c (cond_recv c 0) ?_ ?_
  · exact fun h => recv_text (j := 0) (o₁ := ![0]) (o₂ := ![0, 0]) _ _ rfl rfl
  refine (phase_end m ρ K c (d := up) (by decide) (by decide)).trans ?_
  beta_reduce
  iintro ⟨HS, HO, Hk⟩
  unfold wpc; rw [Prog.pure_eq_ret, wp_ret]; imodintro
  iapply Hk
  isplitl [HS] <;> iassumption

/-! ### Part 5: the copies' sources are awaited -/

/-- The landing buffer, whole. -/
def landW (f : (cc0_scratch1 : Ref sig .tc).ty.Contents (Elt F)) : sProp 𝕄 := ((c : Thread nD τ).loc cc0_scratch1) ↦{fullShare} f

/-- The wait for a copy's source as the program writes it. -/
theorem drain_text {α : Type} {c j : Dev nD} {o₁ : Fin 1 → Nat} {o₂ : Fin 2 → Nat} (hi₁ : ∀ a, o₁ a + S1.size a ≤ S8.size a)
    (hi₂ : ∀ a, o₂ a + S1x512.size a ≤ S8x512.size a) (ho₁ : o₁ = ![j.val]) (ho₂ : o₂ = ![c.val, 0]) {hsrc hdst} {k : Prog (TpuEff nD τ sig (Elt F) Λ₀ .tc) α} :
    (Prog.lift (TpuEff.waitDma2 (p := .tc) (((cc0_scratch3 : DmaSems sig S8).slice (Rect.unit (s := S8) o₁ S1.size hi₁)).squeeze S_ squeezes_S1_S_).sem
        (rM.slice (Rect.unit (s := S8x512) o₂ S1x512.size hi₂) (fun _ => rfl)) tM hsrc hdst) >>= fun _ => k)
      = Prog.op (.waitDma2 (sendS j) (rowM c) tM (View.wordExact_bits rfl) (Memref.isWhole_whole cc0_scratch0).wordExact) fun _ => k := by
  subst ho₁ ho₂; rfl

/-- One branch of the last waits, in the run over all devices. -/
theorem drain_step {α : Type} {Q : α → sProp 𝕄} {R : sProp 𝕄} {j : Dev nD} {l d : List (Dev nD)} {T : (cc0_scratch0 : Ref sig .tc).ty.Contents (Elt F)}
    (hT : ∀ j, c < j → T = tot m ρ c) {b : BitVec 1}
    (hb : b = 1#1 ↔ c < j) {t : b = 1#1 → Prog (TpuEff nD τ sig (Elt F) Λ₀ .tc) α} {k : Prog (TpuEff nD τ sig (Elt F) Λ₀ .tc) α}
    (ht : ∀ h, t h = Prog.op (.waitDma2 (sendS j) (rowM c) tM (View.wordExact_bits rfl) (Memref.isWhole_whole cc0_scratch0).wordExact) fun _ => k)
    (hk : phase m ρ K c (drainIn c T) (drainOut c T) (fun _ => 0) R l (j :: d) ⊢ wpc c k Q) :
    phase m ρ K c (drainIn c T) (drainOut c T) (fun _ => 0) R (j :: l) d ⊢ wpc c (dite (b = 1#1) t fun _ => k) Q :=
  phase_step m ρ K c (drain_core m ρ K c (hT j) hb ht) hk

set_option maxHeartbeats 4000000 in
/-- Part 5: each copy's source is awaited, and the landing buffer is loaded. -/
theorem part5_spec {Q : (Σ' (v145 : Vec F S8x512 .f32), IVec S8x1 1) → sProp 𝕄} {T : (cc0_scratch0 : Ref sig .tc).ty.Contents (Elt F)}
    (hT' : ∀ j, c < j → T = tot m ρ c) (g : (cc0_scratch1 : Ref sig .tc).ty.Contents (Elt F)) (v121 : BitVec 1) :
    iprop(ctx m ρ K ∗ bigSep Finset.univ (drainIn c T) ∗ dues c 0 ∗ landW c g
        ∗ ((bigSep Finset.univ (drainOut c T) ∗ dues c 0 ∗ landW c g) -∗ Q ⟨g, k0_pay5 (myW c)⟩))
      ⊢ wpc c (k0_part5 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            cc0_scratch2 cc0_scratch3 cc0_scratch4
            c (myW c) v121) Q := by
  rw [k0_part5_eq_skeleton]
  unfold k0_part5_skel
  refine (phase_start m ρ K c (Out := drainOut c T) (O := fun _ => 0) (l := up) (by decide) (by decide)).trans ?_
  refine drain_step m ρ K c hT' (cond26 c) ?_ ?_
  · exact fun h => drain_text (j := 0) (o₁ := ![0]) _ _ rfl (k0_off25_eq c)
  refine drain_step m ρ K c hT' (cond27 c) ?_ ?_
  · exact fun h => drain_text (j := 1) (o₁ := ![1]) _ _ rfl (k0_off26_eq c)
  refine drain_step m ρ K c hT' (cond28 c) ?_ ?_
  · exact fun h => drain_text (j := 2) (o₁ := ![2]) _ _ rfl (k0_off27_eq c)
  refine drain_step m ρ K c hT' (cond29 c) ?_ ?_
  · exact fun h => drain_text (j := 3) (o₁ := ![3]) _ _ rfl (k0_off28_eq c)
  refine drain_step m ρ K c hT' (cond30 c) ?_ ?_
  · exact fun h => drain_text (j := 4) (o₁ := ![4]) _ _ rfl (k0_off29_eq c)
  refine drain_step m ρ K c hT' (cond31 c) ?_ ?_
  · exact fun h => drain_text (j := 5) (o₁ := ![5]) _ _ rfl (k0_off30_eq c)
  refine drain_step m ρ K c hT' (cond32 c) ?_ ?_
  · exact fun h => drain_text (j := 6) (o₁ := ![6]) _ _ rfl (k0_off31_eq c)
  refine drain_step m ρ K c hT' (cond33 c) ?_ ?_
  · exact fun h => drain_text (j := 7) (o₁ := ![7]) _ _ rfl (k0_off32_eq c)
  refine (phase_end m ρ K c (d := down) (by decide) (by decide)).trans ?_
  beta_reduce
  rw [lift_bind]
  iintro ⟨HS, HO, HL, Hk⟩
  unfold landW
  iapply (wp_load 𝒱₀ (c : Thread nD τ) none Set.univ (m := rM) (Finset.subset_univ _)) $$ HL
  iintro HL
  rw [show (rM : Memref sig .tc .vmem S8x512 .f32).view.readAt (Elt F) _ g = g from Memref.readAt_unit_zero (Elt F) cc0_scratch1 hz _ _]
  rw [Prog.pure_eq_ret, wp_ret]; imodintro
  iapply Hk
  isplitl [HS]; · iexact HS
  isplitl [HO] <;> iassumption

end Parts

end Cert.Prefix

end
-- ==== Proof.Body.lean ====
/-
The kernel's body as a whole: the buffers cut into the rows and shares the parts pass on, and put together again.
-/
module

public import proofs.«01_k».proof.Proof.Part2
public import proofs.«01_k».proof.Proof.Part3

@[expose] public section

set_option maxRecDepth 16384

noncomputable section

namespace Cert.Prefix

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The masked totals -/

/-- Which entries of the landing buffer device `c` multiplies: those of the rows before `c`. -/
abbrev maskOf (c : Dev nD) : IVec S8x512 1 := broadcastTo S8x512 (shapeCast S8x1 (k0_pay5 (myW c)) shapeCasts_S8x1_S8x1) broadcasts_S8x1_S8x512

/-- The mask holds at the rows before `c`. -/
theorem mask_iff (c : Dev nD) (j : Fin 8) (l : Fin 512) : maskOf c (ix2 j l) = 1#1 ↔ j < c := by
  pointwise [maskOf, k0_pay5]
  revert c j
  decide +kernel

/-- What the last product reads of the landing buffer is its rows before `c`. -/
theorem pay1_congr (c : Dev nD) (g h : Vec F S8x512 .f32) (v : Vec F S1024x512 .f32) (hg : ∀ i : S8x512.Idx, i 0 < c → g i = h i) :
    k0_pay1 g (k0_pay5 (myW c)) v = k0_pay1 h (k0_pay5 (myW c)) v := by
  have hs : ∀ o : Vec F S8x512 .f32, select (maskOf c) g o = select (maskOf c) h o := fun o => funext fun i => by
    show (if maskOf c i = 1#1 then g i else o i) = if maskOf c i = 1#1 then h i else o i
    by_cases hi : maskOf c i = 1#1
    · rw [if_pos hi, if_pos hi]
      refine hg i ((mask_iff c (i 0) (i 1)).mp ?_)
      rw [ix2_eta]; exact hi
    · rw [if_neg hi, if_neg hi]
  unfold k0_pay1
  simp only [hs]

/-- Device `c`'s block of the result. -/
def outAt (c : Dev nD) : (cc0_stg1_0 : Ref sig .tc).ty.Contents (Elt F) :=
  k0_pay1 (allTot m ρ) (k0_pay5 (myW c)) (k0_pay4 (k0_pay2 (xstg m ρ c)))

section Whole

variable (K : Dev nD × Slot → ℕ) (c : Dev nD)

/-! ## The landing buffer by rows -/

/-- Two landing rows share no entry. -/
theorem rows_disjoint : ∀ j ∈ (Finset.univ : Finset (Dev nD)), ∀ j' ∈ (Finset.univ : Finset (Dev nD)), j ≠ j' → Disjoint (rowM j).view.set (rowM j').view.set :=
  fun j _ j' _ h => Finset.disjoint_left.mpr fun i hi hi' => h (((mem_row j i).mp hi).symm.trans ((mem_row j' i).mp hi'))
/-- The landing rows are the whole landing buffer. -/
theorem rows_cover : (Finset.univ : Finset (Dev nD)).biUnion (fun j => (rowM j).view.set) = (Finset.univ : Finset S8x512.Idx) :=
  Finset.eq_univ_iff_forall.mpr fun i => Finset.mem_biUnion.mpr ⟨i 0, Finset.mem_univ _, (mem_row (i 0) i).mpr rfl⟩

/-- A landing row at known contents is one at some contents. -/
theorem row_some (j : Dev nD) (f : (cc0_scratch1 : Ref sig .tc).ty.Contents (Elt F)) :
    (((c : Thread nD τ).loc cc0_scratch1) ↦[(rowM j).view.set]{fullShare} f : sProp 𝕄) ⊢ iprop(∃ f, rowPts c j f) := by
  unfold rowPts
  iintro H
  iexists f
  iexact H

/-- The landing buffer is its rows. -/
theorem land_split (f : (cc0_scratch1 : Ref sig .tc).ty.Contents (Elt F)) : landW c f ⊢ bigSep Finset.univ fun j => iprop(∃ f, rowPts c j f) := by
  have h := pointsTo_biUnion (ℓ := (c : Thread nD τ).loc cc0_scratch1) (q := fullShare) (f := f) (U := UU) (Ix := Unit) (Name := ℕ) (Lvl := ℕ) Finset.univ (fun j : Dev nD => (rowM j).view.set) rows_disjoint
  rw [rows_cover] at h
  exact (Entails.of_eq h).trans (bigSep_mono fun j _ => row_some c j f)

/-- The rows put together: a landing buffer that agrees with the totals on the rows before `c`. -/
theorem land_join : (bigSep Finset.univ fun j => iprop(∃ f, ⌜j < c → f = allTot m ρ⌝ ∗ rowPts c j f))
    ⊢ (iprop(∃ g, ⌜∀ i : S8x512.Idx, i 0 < c → g i = allTot m ρ i⌝ ∗ landW c g) : sProp 𝕄) := by
  iintro H
  ihave H := (BI.bigSep_exists_pi Finset.univ (fun (j : Dev nD) f => (iprop(⌜j < c → f = allTot m ρ⌝ ∗ rowPts c j f) : sProp 𝕄))) $$ H
  icases H with ⟨%fs, H⟩
  ihave H := (BI.bigSep_pure_sep Finset.univ (fun j : Dev nD => j < c → fs j = allTot m ρ) (fun j => rowPts c j (fs j))) $$ H
  icases H with ⟨%Hp, H⟩
  unfold rowPts
  ihave H := (pointsTo_biUnion_join (ℓ := (c : Thread nD τ).loc cc0_scratch1) (q := fullShare) Finset.univ (fun j : Dev nD => (rowM j).view.set) fs (allTot m ρ) rows_disjoint) $$ H
  icases H with ⟨%g, %hg, H⟩
  iexists g
  isplitr
  · ipureintro
    intro i hi
    rw [hg (i 0) (Finset.mem_univ _) i ((mem_row (i 0) i).mpr rfl), Hp (i 0) (Finset.mem_univ _) hi]
  · unfold landW
    rw [rows_cover]
    iexact H

/-! ## The body -/

/-- A sequence is run part by part. -/
theorem wpc_bind {α β : Type} {Q : β → sProp 𝕄} (p : Prog (TpuEff nD τ sig (Elt F) Λ₀ .tc) α) (k : α → Prog (TpuEff nD τ sig (Elt F) Λ₀ .tc) β) :
    wpc c (p >>= k) Q = wpc c p fun a => wpc c (k a) Q := wp_bind _ _ _ p k Q

/-- What device `c` starts with for each device `j`: the right to signal it, the right to a copy to it, its positions on the two
    semaphores of the landing from it and of the copy to it, with the credit the launch gives. -/
def mine (j : Dev nD) : sProp 𝕄 :=
  iprop(dutyTok ER (credC j c) 0 () ∗ sendTok c j
    ∗ (atPos ER (recvC c j) 0 ∅ 0 ∗ cred (tallyAt (recvC c j) () (if j < c then N else 0))) ∗ atPos ER (sendC c j) 0 ∅ 0)

/-- All of a device's semaphores, at zero. -/
def zeros : sProp 𝕄 := bigSep Finset.univ fun k : Slot => semVal (kcell (c, k)) 0

/-- The three kinds of semaphores at zero are all of the device's semaphores at zero. -/
theorem zeros_intro : iprop((bigSep Finset.univ fun j => semVal (credC c j) 0) ∗ (bigSep Finset.univ fun j => semVal (sendC c j) 0)
    ∗ (bigSep Finset.univ fun j => semVal (recvC c j) 0)) ⊢ (zeros c : sProp 𝕄) := by
  unfold zeros
  rw [bigSep_univ_prod, bigSep_univ_eq_bigSepL [(0 : Fin 3), 1, 2] (by decide) (by decide)]
  exact Entails.of_eq rfl

/-- What the receives leave: their semaphores at zero, and the rows. -/
theorem recvOut_all : bigSep Finset.univ (recvOut m ρ c) = iprop((bigSep Finset.univ fun j => semVal (recvC c j) 0)
    ∗ bigSep Finset.univ fun j => iprop(∃ f, ⌜j < c → f = allTot m ρ⌝ ∗ rowPts c j f)) := by
  unfold recvOut; rw [bigSep_sep']
/-- What the sends leave: the credits' semaphores at zero, and each share of the totals, kept or lent. -/
theorem sendOut_all (T : (cc0_scratch0 : Ref sig .tc).ty.Contents (Elt F)) : bigSep Finset.univ (sendOut c T) = iprop((bigSep Finset.univ fun j => semVal (credC c j) 0)
    ∗ bigSep Finset.univ fun j => if c < j then iprop(cred (tallyAt (sendC c j) () N)) else totPts c j T) := by
  unfold sendOut; rw [bigSep_sep']
/-- What the last waits leave: the sends' semaphores at zero, and the whole of the totals. -/
theorem drainOut_all (T : (cc0_scratch0 : Ref sig .tc).ty.Contents (Elt F)) : bigSep Finset.univ (drainOut c T)
    = iprop((bigSep Finset.univ fun j => semVal (sendC c j) 0) ∗ totW c T) := by
  unfold drainOut; rw [bigSep_sep', ← totW_shares]

set_option maxHeartbeats 4000000 in
/-- The body of device `c`: from its block and its rights, the block of the result, every buffer back and every semaphore at zero. -/
theorem sound_body {Q : PUnit → sProp 𝕄} :
    iprop(ctx m ρ K ∗ bigSep Finset.univ (mine c) ∗ (∃ f, totW c f) ∗ (∃ f, landW c f) ∗ dues c (O₀ c) ∗ xPts m ρ c ∗ (∃ f, outPts c f)
        ∗ (((∃ f, totW c f) ∗ (∃ f, landW c f) ∗ zeros c ∗ dues c 0 ∗ xPts m ρ c ∗ outPts c (outAt m ρ c)) -∗ Q ⟨⟩))
      ⊢ wpc c (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            cc0_scratch2 cc0_scratch3 cc0_scratch4) Q := by
  rw [cc0_body_eq_skeleton]
  unfold cc0_body_skel mine
  simp only [bigSep_sep']
  iintro ⟨#Hc, ⟨Hsig, Hsend, ⟨Hrp, Hrc⟩, Hdp⟩, Htot, ⟨%f0, Hland⟩, HO, Hx, Hout, Hk⟩
  ihave Hrows := (land_split c f0) $$ Hland
  rw [wpc_bind]
  iapply (part1_spec m ρ K c)
  isplitr; · iexact Hc
  isplitl [Hsig Hrows]
  · unfold sigIn; rw [bigSep_sep']; isplitl [Hsig] <;> iassumption
  isplitl [HO]; · iexact HO
  isplitl [Hx]; · iexact Hx
  iintro ⟨Hrows, HO, Hx⟩
  rw [wpc_bind]
  iapply (part2_spec m ρ K c)
  isplitl [Htot]; · iexact Htot
  isplitr; · iexact Hc
  isplitl [Hsend]; · iexact Hsend
  isplitl [HO]; · iexact HO
  iintro %T %hT ⟨Hsent, HO⟩
  rw [wpc_bind]
  iapply (part3_spec c (k0_pay2 (xstg m ρ c)))
  isplitl [Hout]; · iexact Hout
  iintro Hout
  rw [wpc_bind]
  iapply (part4_spec m ρ K c)
  isplitr; · iexact Hc
  isplitl [Hrp Hrc Hrows]
  · unfold recvIn; rw [bigSep_sep', bigSep_sep']
    isplitl [Hrp]; · iexact Hrp
    isplitl [Hrc] <;> iassumption
  isplitl [HO]; · iexact HO
  iintro ⟨Hrecv, HO⟩
  ihave Hrecv := (Entails.of_eq (recvOut_all m ρ c)) $$ Hrecv
  ihave Hsent := (Entails.of_eq (sendOut_all c T)) $$ Hsent
  icases Hrecv with ⟨Hz2, Hrows⟩
  icases Hsent with ⟨Hz0, Hsh⟩
  ihave Hland := (land_join m ρ c) $$ Hrows
  icases Hland with ⟨%g, %hg, Hland⟩
  rw [wpc_bind]
  iapply (part5_spec m ρ K c hT g _)
  isplitr; · iexact Hc
  isplitl [Hdp Hsh]
  · unfold drainIn; rw [bigSep_sep']; isplitl [Hdp] <;> iassumption
  isplitl [HO]; · iexact HO
  isplitl [Hland]; · iexact Hland
  iintro ⟨Hdr, HO, Hland⟩
  ihave Hdr := (Entails.of_eq (drainOut_all c T)) $$ Hdr
  icases Hdr with ⟨Hz1, Htot⟩
  rw [lift_bind]
  unfold outPts
  iapply (wp_load 𝒱₀ (c : Thread nD τ) none Set.univ (m := oM) (Finset.subset_univ _)) $$ Hout
  iintro Hout
  rw [lift_bind]
  iapply (wp_load 𝒱₀ (c : Thread nD τ) none Set.univ (m := oM) (Finset.subset_univ _)) $$ Hout
  iintro Hout
  rw [read_out, lift_bind]
  iapply (wp_store 𝒱₀ (c : Thread nD τ) none Set.univ (m := oM) (r := rO) (Mk := Finset.univ) (Finset.subset_univ _)) $$ Hout
  iintro Hout
  rw [write_out, pay1_congr c g (allTot m ρ) _ hg, Prog.pure_eq_ret, wp_ret]; imodintro
  iapply Hk
  isplitl [Htot]; · iexists T; iexact Htot
  isplitl [Hland]; · iexists g; iexact Hland
  isplitl [Hz0 Hz1 Hz2]
  · iapply (zeros_intro c)
    isplitl [Hz0]; · iexact Hz0
    isplitl [Hz1] <;> iassumption
  isplitl [HO]; · iexact HO
  isplitl [Hx]; · iexact Hx
  unfold outAt; iexact Hout

end Whole

end Cert.Prefix

end
-- ==== Proof.Launch.lean ====
/-
The launch: the rights dealt to the devices, the credit they start with, and the run of the whole program.
-/
module

public import proofs.«01_k».proof.Proof.Body

@[expose] public section

set_option maxRecDepth 16384

noncomputable section

namespace Cert.Prefix

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's proof data -/

theorem cfg0_N : cfg0.N = 1 := by decide
def t₀ : Fin cfg0.N := ⟨0, by rw [cfg0_N]; decide⟩
theorem fin_N (t : Fin cfg0.N) : t = t₀ := Fin.ext (Nat.lt_one_iff.mp (cfg0_N ▸ t.isLt))

/-- What device `c` enters the kernel with. -/
def start (c : Dev nD) : sProp 𝕄 := iprop(∃ K, ctx m ρ K ∗ bigSep Finset.univ (mine c))
/-- What a device holds before the body runs. -/
def Φ₀ (c : Dev nD) : sProp 𝕄 := iprop(start m ρ c ∗ (∃ f, totW c f) ∗ (∃ f, landW c f))
/-- What it holds after. -/
def Φ₁ (c : Dev nD) : sProp 𝕄 := iprop((∃ f, totW c f) ∗ (∃ f, landW c f) ∗ zeros c)

/-- The launch's account of a device: its windows' contents, what it holds before and after the body, and what it owes. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 2) ∗ Φ (1 : Fin 2)) := bigSep_W0 Φ
theorem fetch_0 (t : Fin cfg0.N) : (cfg0.win (0 : Fin 2)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer holding `X`. -/
def stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- All that the launch hands the body. -/
def bodyPre (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))
/-- All that it wants back. -/
def bodyPost (c : Dev nD) : sProp 𝕄 :=
  iprop(Φ₁ c ∗ (dats m ρ 0 c).owesAt () t₀.succ ∗ stg c cc0_stg0_0 (xstg m ρ c) ∗ stg c cc0_stg1_0 (outAt m ρ c))

/-- The body finds the argument's block in its first window. -/
theorem before_x (c : Dev nD) (d) : (dats m ρ 0 c).before (0 : Fin 2) t₀ d = xstg m ρ c := by
  unfold Dat.before; rw [if_pos (fetch_0 t₀)]; rfl

/-- Before the body the device owes its signals and its copies. -/
theorem owed_first (c : Dev nD) : (dats m ρ 0 c).owesAt () t₀.castSucc ⊢ dues c (O₀ c) := by
  unfold Dat.owesAt Pipeline.owesWithin dues
  rw [show (dats m ρ 0 c).owed t₀.castSucc = O₀ c from rfl]
  iintro ⟨%W, %hW, HO⟩
  iexists W; iexact HO
/-- After the body it owes nothing. -/
theorem owed_last (c : Dev nD) : dues c 0 ⊢ (dats m ρ 0 c).owesAt () t₀.succ := by
  unfold Dat.owesAt Pipeline.owesWithin dues
  rw [show (dats m ρ 0 c).owed t₀.succ = 0 from rfl]
  iintro ⟨%W, HO⟩
  iexists W
  isplitr; · ipureintro; exact fun _ _ => Or.inl trivial
  iexact HO

/-- The body meets what the launch asks of it. -/
theorem body_obligation (c : Dev nD) : BodyObligation (dats (F := F) m ρ 0 c) (defs₀ (F := F)) 𝒱₀ () Set.univ := fun t => by
  rw [fin_N t, bigSep_W, bigSep_W]
  simp only [owns_whole_eq]
  show bodyPre m ρ c ⊢ wpc c (cc0_body (Memref.whole cc0_stg0_0) (Memref.isWhole_whole _) (Memref.whole cc0_stg1_0) (Memref.isWhole_whole _)
    (Memref.whole cc0_scratch0) (Memref.isWhole_whole _) (Memref.whole cc0_scratch1) (Memref.isWhole_whole _)
    cc0_scratch2 cc0_scratch3 cc0_scratch4) (fun _ => bodyPost m ρ c)
  unfold bodyPre Φ₀ start stg
  iintro ⟨⟨⟨%K, Hc, Hm⟩, Ht, Hl⟩, Ho, ⟨%d0, %g0, %hg0, Hx⟩, ⟨%d1, %g1, %hg1, Hout⟩⟩
  rw [before_x] at hg0
  subst hg0
  iapply (sound_body m ρ K c (Q := fun _ => bodyPost m ρ c))
  isplitl [Hc]; · iexact Hc
  isplitl [Hm]; · iexact Hm
  isplitl [Ht]; · iexact Ht
  isplitl [Hl]; · iexact Hl
  isplitl [Ho]; · iapply (owed_first m ρ c); iexact Ho
  isplitl [Hx]; · unfold xPts; iexact Hx
  isplitl [Hout]; · iexists g1; unfold outPts; iexact Hout
  unfold bodyPost Φ₁ stg xPts outPts
  iintro ⟨Ht, Hl, Hz, Ho, Hx, Hout⟩
  isplitl [Ht Hl Hz]
  · isplitl [Ht]; · iexact Ht
    isplitl [Hl] <;> iassumption
  isplitl [Ho]; · iapply (owed_last m ρ c); iexact Ho
  isplitl [Hx]
  · iexists _; isplitr; · (ipureintro; rfl)
    iexact Hx
  iexists _; isplitr; · (ipureintro; rfl)
  iexact Hout

/-! ## The rights dealt -/

/-- The kernel's own semaphores are distinct, and none is a window's. -/
theorem ownSemFacts : Pipeline.OwnSemFacts cfg0.spec osem := ⟨by decide, osem_inj, by decide⟩
/-- Each window's array is held whole. -/
theorem share_eq (c : Dev nD) (w : Fin cfg0.W) : (dats m ρ 0 c).share w = fullShare := by unfold Dat.share; split <;> rfl

theorem kcell_injective : Function.Injective (kcell : Dev nD × Slot → GSem nD τ sig) := fun a b h =>
  Prod.ext (congrArg (fun g : GSem nD τ sig => g.1.1) h) (osem_inj (congrArg Prod.snd h))

/-- The semaphores under the schedule, and the duties on them. -/
def myCells : Finset (GSem nD τ sig) := Finset.univ.map ⟨kcell, kcell_injective⟩
/-- The rights to every signal and landing of the protocol. -/
def myToks : Finset (GSem nD τ sig × ℕ × Unit) :=
  Finset.univ.map ⟨fun ck : Dev nD × Slot => (kcell ck, 0, ()), fun _ _ h => kcell_injective (congrArg Prod.fst h)⟩

/-- What the run starts with: the launch's own rounds and the protocol's. -/
def u₀ : UU := (initOf (Pipeline.cells cfgs cellOf_inj) (Pipeline.launchToks cfgs cellOf_inj), initOf myCells myToks)

/-- A statement of every slot of a device, for every device. -/
abbrev slots (Φ : Dev nD × Slot → sProp 𝕄) (c : Dev nD) : sProp 𝕄 := bigSep Finset.univ fun k : Slot => Φ (c, k)

/-- The slots of a device by their use. -/
theorem bigSep_slot (Φ : Slot → sProp 𝕄) : bigSep Finset.univ Φ = iprop((bigSep Finset.univ fun j => Φ (0, j)) ∗ (bigSep Finset.univ fun j => Φ (1, j))
    ∗ bigSep Finset.univ fun j => Φ (2, j)) := by
  rw [bigSep_univ_prod, bigSep_univ_eq_bigSepL [(0 : Fin 3), 1, 2] (by decide) (by decide)]
  rfl

/-- A device's part of it. -/
def G (c : Dev nD) : sProp 𝕄 :=
  iprop(slots (fun ck => roundState ER (Rd m ρ) (kcell ck) 0) c ∗ slots (fun ck => atPos ER (kcell ck) 0 ∅ 0) c
    ∗ slots (fun ck => reached ER (kcell ck) 0) c ∗ slots (fun ck => dutyTok ER (kcell ck) 0 ()) c)

/-- Device `c`'s duties. -/
def duty (c : Dev nD) : sProp 𝕄 :=
  iprop((bigSep Finset.univ fun j => dutyTok ER (credC j c) 0 ()) ∗ (bigSep Finset.univ fun j => dutyTok ER (sendC c j) 0 ())
    ∗ bigSep Finset.univ fun j => dutyTok ER (recvC j c) 0 ())

/-- The same once the invariants stand: the records, its positions and its duties. -/
def G' (c : Dev nD) : sProp 𝕄 := iprop(∃ K, records m ρ K ∗ slots (fun ck => atPos ER (kcell ck) 0 ∅ 0) c ∗ duty c)

/-- The protocol's rounds are dealt out device by device. -/
theorem fund_mine : BI.own (ER (initOf myCells myToks)) ⊢ (|==> bigSep Finset.univ (G m ρ) : sProp 𝕄) := by
  have hX (Φ : GSem nD τ sig → sProp 𝕄) : bigSep myCells Φ = bigSep Finset.univ (slots fun ck => Φ (kcell ck)) := by
    unfold myCells; rw [bigSep_map, bigSep_univ_prod]; rfl
  have hT : bigSep myToks (fun x => (dutyTok ER x.1 x.2.1 x.2.2 : sProp 𝕄)) = bigSep Finset.univ (slots fun ck => dutyTok ER (kcell ck) 0 ()) := by
    unfold myToks; rw [bigSep_map, bigSep_univ_prod]; rfl
  have hf := Rounds.fund (ER (F := F)) (Rd m ρ) myCells myToks
  rw [hT, hX, hX, hX] at hf
  iintro HX
  imod hf $$ HX with ⟨Hst, Hr, Hat, Htok⟩
  imodintro
  unfold G
  rw [bigSep_sep', bigSep_sep', bigSep_sep']
  isplitl [Hst]; · iexact Hst
  isplitl [Hat]; · iexact Hat
  isplitl [Hr] <;> iassumption

/-- The kernel's own semaphores at zero, slot by slot. -/
theorem ownSems0_eq (c : Dev nD) : (Pipeline.ownSems0 (Ix := Unit) (Name := ℕ) (U := UU) (Lvl := ℕ) (Val := Elt F) (τ := τ) osem c : sProp 𝕄)
    = slots (fun ck => semVal (kcell ck) 0) c := rfl

/-- The semaphores' invariants are made, each from its counter at zero. -/
theorem core_alloc (c : Dev nD) :
    iprop(Pipeline.ownSems0 (Ix := Unit) (Name := ℕ) (U := UU) (Lvl := ℕ) (Val := Elt F) (τ := τ) osem c ∗ G m ρ c)
      ⊢ |={Set.univ}=> iprop(slots (fun ck => iprop(∃ κ : ℕ, cellInv ER (Rd m ρ) κ (kcell ck))) c ∗ slots (fun ck => atPos ER (kcell ck) 0 ∅ 0) c
          ∗ slots (fun ck => reached ER (kcell ck) 0) c ∗ slots (fun ck => dutyTok ER (kcell ck) 0 ()) c) := by
  have hinv : iprop(slots (fun ck => semVal (kcell ck) 0) c ∗ slots (fun ck => roundState ER (Rd m ρ) (kcell ck) 0) c)
      ⊢ (|={Set.univ}=> slots (fun ck => iprop(∃ κ : ℕ, cellInv ER (Rd m ρ) κ (kcell ck))) c : sProp 𝕄) := by
    rw [← bigSep_sep']
    exact (bigSep_mono fun k _ => (Rounds.body_intro ER (Rd m ρ) (kcell (c, k))).trans inv_alloc).trans (bigSep_fupd _ _)
  unfold G
  rw [ownSems0_eq]
  iintro ⟨Hv, Hst, Hrest⟩
  imod hinv $$ [Hv Hst] with Hinv
  · isplitl [Hv]; · iexact Hv
    iexact Hst
  imodintro
  isplitl [Hinv] <;> iassumption

/-- Every device is given its duties: the duty on a semaphore goes to the device that is to signal it. -/
theorem deal : (bigSep Finset.univ (slots fun ck => (dutyTok ER (kcell ck) 0 () : sProp 𝕄))) ⊢ bigSep Finset.univ (duty (F := F)) := by
  have h0 := bigSep_univ_comm (M := 𝕄) fun c j : Dev nD => dutyTok ER (credC c j) 0 ()
  have h2 := bigSep_univ_comm (M := 𝕄) fun c j : Dev nD => dutyTok ER (recvC c j) 0 ()
  unfold duty
  rw [bigSep_sep', bigSep_sep', ← h0, ← h2, ← bigSep_sep', ← bigSep_sep']
  exact bigSep_mono fun c _ => Entails.of_eq (bigSep_slot fun k => dutyTok ER (kcell (c, k)) 0 ())

/-- What does not run out is had by every member. -/
theorem share_persistent {I : Type} [DecidableEq I] {S : Finset I} {R : sProp 𝕄} [BI.Persistent R] {Φ Ψ : I → sProp 𝕄}
    (h : ∀ i, iprop(R ∗ Φ i) ⊢ Ψ i) : iprop(R ∗ bigSep S Φ) ⊢ bigSep S Ψ :=
  (sep_mono_left (BI.bigSep_of_persistent S R)).trans (by rw [← bigSep_sep']; exact bigSep_mono fun i _ => h i)

/-- The rights, sorted by the device that signals in place of the one that waits. -/
theorem regroup :
    (bigSep Finset.univ fun c : Dev nD => iprop(slots (fun ck => iprop(∃ κ : ℕ, cellInv ER (Rd m ρ) κ (kcell ck))) c ∗ slots (fun ck => atPos ER (kcell ck) 0 ∅ 0) c
          ∗ slots (fun ck => reached ER (kcell ck) 0) c ∗ slots (fun ck => dutyTok ER (kcell ck) 0 ()) c) : sProp 𝕄)
      ⊢ bigSep Finset.univ (G' m ρ) := by
  rw [bigSep_sep', bigSep_sep', bigSep_sep', ← bigSep_univ_prod (fun ck : Dev nD × Slot => iprop(∃ κ : ℕ, cellInv ER (Rd m ρ) κ (kcell ck))),
    ← bigSep_univ_prod (fun ck : Dev nD × Slot => (reached ER (kcell ck) 0 : sProp 𝕄))]
  iintro ⟨HI, Hat, #HR, Htok⟩
  ihave HK := (BI.bigSep_exists_pi Finset.univ (fun (ck : Dev nD × Slot) (κ : ℕ) => (cellInv ER (Rd m ρ) κ (kcell ck) : sProp 𝕄))) $$ HI
  icases HK with ⟨%K, #HI⟩
  ihave Hd := (deal (F := F)) $$ Htok
  iapply (share_persistent (R := records m ρ K) (Φ := fun c => iprop(slots (fun ck => atPos ER (kcell ck) 0 ∅ 0) c ∗ duty c)) fun c => by
    unfold G'; iintro H; iexists K; iexact H)
  isplitr
  · unfold records; isplitl; · iexact HI
    iexact HR
  rw [bigSep_sep']
  isplitl [Hat] <;> iassumption

/-- From all devices' parts the invariants are made, and each device gets its records, positions and duties. -/
theorem glob : (bigSep Finset.univ fun c => iprop(Pipeline.ownSems0 (Ix := Unit) (Name := ℕ) (U := UU) (Lvl := ℕ) (Val := Elt F) (τ := τ) osem c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

/-- The units of a list of tallies on a cell. -/
theorem list_units (l : List (Dev nD)) (f : Dev nD → CellTallies nD τ sig Unit) (g : GSem nD τ sig) :
    (l.map f).sum g () = (l.map fun j => f j g ()).sum := by
  induction l with
  | nil => rfl
  | cons a l ih => rw [List.map_cons, List.sum_cons, Pi.add_apply, Finsupp.add_apply, ih, List.map_cons, List.sum_cons]

theorem all_units (l : List (Dev nD)) (hl : l.Nodup) (h : l.toFinset = Finset.univ) (f : Dev nD → ℕ) : (l.map f).sum = ∑ j, f j := by
  rw [← h, List.sum_toFinset f hl]

/-- The units one device owes to one cell out of a family of tallies, at most one per device. -/
theorem units_at (d : Dev nD) (a : Fin 3) (n : ℕ) (p : Dev nD → Prop) [DecidablePred p] (ck : Dev nD × Slot) :
    (∑ k : Dev nD, (if p k then (tallyAt (kcell (k, (a, d))) () n : CellTallies nD τ sig Unit) else 0) (kcell ck) ())
      = if ck.2 = (a, d) ∧ p ck.1 then n else 0 := by
  rw [Finset.sum_eq_single ck.1]
  · by_cases h : p ck.1
    · rw [if_pos h, tallyAt_apply]
      by_cases h' : ck.2 = (a, d)
      · rw [if_pos ⟨by rw [← h'], rfl⟩, if_pos ⟨h', h⟩]
      · rw [if_neg fun e => h' (congrArg Prod.snd (kcell_injective e.1)), if_neg fun e => h' e.1]
    · rw [if_neg h, if_neg fun e => h e.2]; rfl
  · intro k _ hk
    by_cases h : p k
    · rw [if_pos h, tallyAt_apply, if_neg fun e => hk (congrArg Prod.fst (kcell_injective e.1)).symm]
    · rw [if_neg h]; rfl
  · exact fun h => absurd (Finset.mem_univ _) h

/-- What a device owes at a slot of another. -/
theorem owed_at (d : Dev nD) (ck : Dev nD × Slot) :
    O₀ d (kcell ck) () = (if ck.2 = (0, d) ∧ ck.1 < d then 1 else 0) + (if ck.2 = (2, d) ∧ d < ck.1 then N else 0) := by
  unfold O₀ oCred oRecv
  rw [Pi.add_apply, Finsupp.add_apply, list_units, list_units, all_units up (by decide) (by decide), all_units down (by decide) (by decide)]
  exact congrArg₂ (· + ·) (units_at d 0 1 (fun k => k < d) ck) (units_at d 2 N (fun k => d < k) ck)

/-- The credit that a slot gets at the launch is what all devices owe it. -/
theorem launch_at (ck : Dev nD × Slot) (n : ℕ) (h : (∑ d, O₀ d (kcell ck) ()) = n) :
    tallyOn (kcell ck) (launchCredit (Pipeline.owing O₀) 0 (kcell ck)) = (tallyAt (kcell ck) () n : CellTallies nD τ sig Unit) := by
  unfold tallyAt
  refine congrArg _ (Finsupp.ext fun u => ?_)
  cases u
  rw [Pipeline.launchCredit_owing, Finsupp.single_eq_same, h]

/-- A credit's slot gets one unit, if the device it comes from is later. -/
theorem launch_cred (c j : Dev nD) : tallyOn (credC c j) (launchCredit (Pipeline.owing O₀) 0 (credC c j)) = (tallyAt (credC c j) () (if c < j then 1 else 0) : CellTallies nD τ sig Unit) := by
  refine launch_at (c, (0, j)) _ ?_
  simp only [owed_at]
  revert c j
  decide +kernel

/-- A landing's slot gets one row, if the device it comes from is earlier. -/
theorem launch_recv (c j : Dev nD) : tallyOn (recvC c j) (launchCredit (Pipeline.owing O₀) 0 (recvC c j)) = (tallyAt (recvC c j) () (if j < c then N else 0) : CellTallies nD τ sig Unit) := by
  refine launch_at (c, (2, j)) _ ?_
  simp only [owed_at]
  rw [Finset.sum_eq_single j]
  · by_cases h : j < c <;> simp [h]
  · intro d _ hd
    rw [if_neg fun e => absurd (show (2 : Fin 3) = 0 from congrArg Prod.fst e.1) (by decide), if_neg fun e => hd (congrArg Prod.snd e.1).symm]; rfl
  · exact fun h => absurd (Finset.mem_univ _) h

/-- The launch's credit of a device, slot by slot. -/
theorem creds (c : Dev nD) : (Pipeline.launchCred O₀ c : sProp 𝕄)
    ⊢ iprop((bigSep Finset.univ fun j => cred (tallyAt (credC c j) () (if c < j then 1 else 0)))
      ∗ bigSep Finset.univ fun j => cred (tallyAt (recvC c j) () (if j < c then N else 0))) := by
  unfold Pipeline.launchCred
  refine (bigSep_subset (Finset.subset_univ (Finset.univ.map ⟨osem, osem_inj⟩))).trans ?_
  rw [bigSep_map, bigSep_slot]
  have h0 (j : Dev nD) := congrArg (fun t => (cred t : sProp 𝕄)) (launch_cred c j)
  have h2 (j : Dev nD) := congrArg (fun t => (cred t : sProp 𝕄)) (launch_recv c j)
  exact BI.sep_mono (Entails.of_eq (bigSep_congr fun j _ => h0 j)) (sep_elim_right.trans (Entails.of_eq (bigSep_congr fun j _ => h2 j)))

/-! ## The side conditions -/

/-- What the launch gives a device is what the body's account starts from. -/
theorem start_intro (c : Dev nD) :
    iprop(Pipeline.unscopedRestP Pipeline.Prefetch.none cfg0.spec c (fun b => m ((c : Thread nD τ).loc b)) ∗ unscopedSems0 c ∗ levAts L lv
        ∗ Pipeline.launchCred O₀ c ∗ prngReg c (ρ c) ∗ G' m ρ c)
      ⊢ |={Set.univ}=> iprop(start m ρ c ∗ emp) := by
  have hat := bigSep_slot (F := F) fun k => atPos ER (kcell (c, k)) 0 ∅ 0
  unfold G' duty slots
  rw [hat]
  iintro ⟨-, -, Hlev, Hcr, -, ⟨%K, Hrec, ⟨Ha0, Ha1, Ha2⟩, Hd0, Hd1, Hd2⟩⟩
  ihave Hc := (creds (F := F) c) $$ Hcr
  icases Hc with ⟨Hc0, Hc2⟩
  imodintro
  isplitl
  · unfold start ctx mine sendTok
    simp only [bigSep_sep']
    iexists K
    isplitl [Hrec Hlev]
    · isplitl [Hrec] <;> iassumption
    isplitl [Hd0]; · iexact Hd0
    isplitl [Ha0 Hc0 Hd1 Hd2]
    · isplitl [Ha0]; · iexact Ha0
      isplitl [Hc0]; · iexact Hc0
      isplitl [Hd1] <;> iassumption
    isplitl [Ha2 Hc2]
    · isplitl [Ha2]; · iexact Ha2
      iexact Hc2
    iexact Ha1
  · iempintro

/-- With the scratch buffers this is what the body holds first. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ totW landW
  iintro ⟨Hs, -, Ht, Hl⟩
  isplitl [Hs]; · iexact Hs
  isplitl [Ht] <;> iassumption

/-- What the body holds last gives back the semaphores, at zero, and the scratch buffers. -/
theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁ totW landW zeros
  iintro ⟨Ht, Hl, Hz⟩
  isplitr; · iempintro
  isplitl [Hz]; · iexact Hz
  isplitl [Ht] <;> iassumption

/-- The launch's own waits come before all others. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What the run leaves in a window's array. -/
def finalA (c : Dev nD) (w : Fin cfg0.W) : Buf (Elt F) ((cfg0.win w).arr.view.loc (c : Thread nD τ)) := (dats m ρ 0 c).arrAt w cfg0.N

/-- Every device's arrays end at their computed contents. -/
def QC : PUnit × MemSt nD τ sig (Elt F) → Prop := fun r =>
  ∀ c : Dev nD, ∀ w : Fin cfg0.W, r.2.mem ((cfg0.win w).arr.view.loc (c : Thread nD τ)) = finalA m ρ c w

/-- For any float values, from any memory with every counter at zero: every fair execution of the program ends, with each
    device's result at its block of the computed contents, its argument as it was and every semaphore at zero. -/
theorem run_main : θ_run defs (onTc (τ := τ) (main (F := F))) (s₀ m ρ) (fun r => QC m ρ r ∧ r.2.sem = fun _ => 0) :=
  Pipeline.θ_run_region_owing_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_mine m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h hs => ⟨fun c w => (h c).1 w, sem_eq_zero_of_scoped (by decide) hs⟩)

/-- The argument is as it was. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.Prefix

end
-- ==== Proof.Products.lean ====
/-
The kernel's result in exact arithmetic: the tree of half-by-half products is the product of all rows, the doubling steps
give each row the product of the rows up to it, and the two together give the prefix products of the whole array.
-/
module

public import proofs.«01_k».proof.Proof.Launch
public import Idealize.ShloMosaic.Lib.IdealHost
public import Mathlib.Algebra.BigOperators.Intervals

@[expose] public section

set_option maxRecDepth 16384

noncomputable section

namespace Cert.Prefix

open Cert.KernelIdeal Cert.KernelIdeal.Gen

open Idealize.ShloMosaic
open Idealize.ShloMosaic.TcCoe
open Idealize.SL.Sem

/-- An array of `n` rows of 512 extended reals. -/
local notation "Rows" n => FVec Ideal (⟨2, ![n, 512]⟩ : Shape) FTy.f32

/-! ## The tree -/

/-- The product of all entries of column `l`. -/
def colProd {n : ℕ} (v : Rows n) (l : Fin 512) : EReal := ∏ r : Fin n, v (ix2 r l)

/-- Multiplying the upper half of the rows by the lower half keeps each column's product. -/
theorem colProd_halves {n N : ℕ} (hN : N = n + n) (v : Rows N)
    (h0 : (⟨2, ![N, 512]⟩ : Shape).Slices ![0, 0] ⟨2, ![n, 512]⟩) (h1 : (⟨2, ![N, 512]⟩ : Shape).Slices ![n, 0] ⟨2, ![n, 512]⟩) (l : Fin 512) :
    colProd (mulf (extractStridedSlice ⟨2, ![n, 512]⟩ ![0, 0] v h0) (extractStridedSlice ⟨2, ![n, 512]⟩ ![n, 0] v h1) : Rows n) l = colProd v l := by
  subst hN
  unfold colProd
  rw [Fin.prod_univ_add, ← Finset.prod_mul_distrib]
  refine Finset.prod_congr rfl fun r _ => ?_
  show extractStridedSlice _ _ v h0 (ix2 r l) * extractStridedSlice _ _ v h1 (ix2 r l) = _
  congr 1
  · refine congrArg v (funext fun a => Fin.ext ?_)
    match a with
    | ⟨0, _⟩ => exact Nat.zero_add _
    | ⟨1, _⟩ => exact Nat.zero_add _
  · refine congrArg v (funext fun a => Fin.ext ?_)
    match a with
    | ⟨0, _⟩ => rfl
    | ⟨1, _⟩ => exact Nat.zero_add _

/-- A single row is its column's product. -/
theorem colProd_one (v : Rows 1) (l : Fin 512) : v (ix2 (0 : Fin 1) l) = colProd v l := (Fin.prod_univ_one fun r : Fin 1 => v (ix2 r l)).symm

/-- A cast to the same shape changes nothing. -/
theorem cast_self {s : Shape} {α : Type} (v : s.Idx → α) (h : s.ShapeCasts s) : shapeCast s v h = v := by
  funext j
  show v (Shape.reshapeEquiv h j) = v j
  refine congrArg v ?_
  simp [Shape.reshapeEquiv]

/-- The body works on the argument's block as it is. -/
theorem pay2_eq (v : Rows 1024) : k0_pay2 v = v := cast_self v _

/-- A device's total: in each column, the product of its rows. -/
theorem pay3_at (v : Rows 1024) (l : Fin 512) : k0_pay3 v (ix2 (0 : Fin 1) l) = colProd v l := by
  unfold k0_pay3
  rw [cast_self]
  refine (colProd_one _ l).trans ?_
  repeat rw [colProd_halves (by rfl)]

/-! ## The doubling steps -/

/-- Row `i` of `v` is, in column `l`, the product of the last `d` of the rows `0 … i` of `x`. -/
def Spans (d : ℕ) (v : Rows 1024) (x : ℕ → Fin 512 → EReal) : Prop :=
  ∀ (i : Fin 1024) (l : Fin 512), v (ix2 i l) = ∏ k ∈ Finset.Ico (i.val + 1 - d) (i.val + 1), x k l

/-- The kernel's constant is one. -/
theorem one_word : (Scalar.ofBits .f32 0x3F800000#32 : Ideal .f32) = (1 : EReal) := Ideal.ofBits_one_f32

/-- A product of arrays, at an entry. -/
theorem mulf_at {s : Shape} (a b : FVec Ideal s .f32) (i : s.Idx) : mulf a b i = (a i * b i : EReal) := rfl

/-- One step: multiplying each row by the one `d` above it, ones where there is none, doubles the reach. -/
theorem Spans.step {d e D : ℕ} (he : d + e = 1024) (hD : D = d + d) {v : Rows 1024} {x : ℕ → Fin 512 → EReal} (h : Spans d v x)
    (hs : (⟨2, ![1024, 512]⟩ : Shape).Slices ![0, 0] ⟨2, ![e, 512]⟩)
    (hc : Shape.Concatenates [(⟨2, ![d, 512]⟩ : Shape), ⟨2, ![e, 512]⟩] ⟨2, ![1024, 512]⟩ 0) :
    Spans D (mulf v (concatenate ⟨2, ![1024, 512]⟩ 0 [⟨⟨2, ![d, 512]⟩, broadcast ⟨2, ![d, 512]⟩ (Scalar.ofBits .f32 0x3F800000#32 : Ideal .f32)⟩,
      ⟨⟨2, ![e, 512]⟩, extractStridedSlice ⟨2, ![e, 512]⟩ ![0, 0] v hs⟩] hc)) x := by
  subst hD
  intro i l
  rw [mulf_at]
  by_cases hi : i.val < d
  · rw [concatenate_pair_apply_left 0 _ _ hc (ix2 i l) rfl (ix2 (⟨i.val, hi⟩ : Fin d) l) (fun b => by
      match b with
      | ⟨0, _⟩ => rfl
      | ⟨1, _⟩ => rfl)]
    show v (ix2 i l) * (Scalar.ofBits .f32 0x3F800000#32 : Ideal .f32) = _
    rw [one_word, mul_one, h i l]
    congr 2 <;> omega
  · have hk : i.val - d < e := by omega
    rw [concatenate_pair_apply_right 0 _ _ hc (ix2 i l) rfl rfl (ix2 (⟨i.val - d, hk⟩ : Fin e) l) (fun b hb => by
      match b, hb with
      | ⟨0, _⟩, hb => exact absurd rfl hb
      | ⟨1, _⟩, _ => rfl) (by show i.val - d + d = i.val; omega)]
    have hr : extractStridedSlice ⟨2, ![e, 512]⟩ ![0, 0] v hs (ix2 (⟨i.val - d, hk⟩ : Fin e) l) = v (ix2 (⟨i.val - d, by omega⟩ : Fin 1024) l) :=
      congrArg v (funext fun a => Fin.ext (by
        match a with
        | ⟨0, _⟩ => exact Nat.zero_add _
        | ⟨1, _⟩ => exact Nat.zero_add _))
    rw [hr, h i l, h, mul_comm]
    show (∏ k ∈ Finset.Ico (i.val - d + 1 - d) (i.val - d + 1), x k l) * _ = _
    rw [show i.val - d + 1 = i.val + 1 - d by omega, Nat.sub_sub]
    exact Finset.prod_Ico_consecutive _ (by omega) (by omega)

/-- After the ten steps each row is the product of all rows up to it. -/
theorem pay4_at (v : Rows 1024) (x : ℕ → Fin 512 → EReal) (hx : ∀ (i : Fin 1024) (l : Fin 512), v (ix2 i l) = x i l) (i : Fin 1024) (l : Fin 512) :
    k0_pay4 v (ix2 i l) = ∏ k ∈ Finset.range (i.val + 1), x k l := by
  have h0 : Spans 1 v x := fun i l => by rw [hx i l, Nat.add_sub_cancel, Nat.Ico_succ_singleton, Finset.prod_singleton]
  have h : Spans 1024 (k0_pay4 v) x := by
    unfold k0_pay4
    refine Spans.step (d := 512) (by rfl) (by rfl) ?_ _ _
    refine Spans.step (d := 256) (by rfl) (by rfl) ?_ _ _
    refine Spans.step (d := 128) (by rfl) (by rfl) ?_ _ _
    refine Spans.step (d := 64) (by rfl) (by rfl) ?_ _ _
    refine Spans.step (d := 32) (by rfl) (by rfl) ?_ _ _
    refine Spans.step (d := 16) (by rfl) (by rfl) ?_ _ _
    refine Spans.step (d := 8) (by rfl) (by rfl) ?_ _ _
    refine Spans.step (d := 4) (by rfl) (by rfl) ?_ _ _
    refine Spans.step (d := 2) (by rfl) (by rfl) ?_ _ _
    exact Spans.step (d := 1) (by rfl) (by rfl) h0 _ _
  rw [h i l, Nat.sub_eq_zero_of_le i.isLt, Finset.range_eq_Ico]

/-! ## The masked product -/

/-- The last product: each row times the totals of the devices before `c`. -/
theorem pay1_at (c : Dev nD) (g : Rows 8) (v : Rows 1024) (i : Fin 1024) (l : Fin 512) :
    k0_pay1 g (k0_pay5 (myW c)) v (ix2 i l) = v (ix2 i l) * ∏ j : Fin 8, if j < c then g (ix2 j l) else 1 := by
  have hm : ∀ j : Fin 8, select (maskOf c) g (broadcast S8x512 (Scalar.ofBits .f32 0x3F800000#32 : Ideal .f32)) (ix2 j l) = if j < c then g (ix2 j l) else 1 := fun j => by
    show (if maskOf c (ix2 j l) = 1#1 then g (ix2 j l) else (Scalar.ofBits .f32 0x3F800000#32 : Ideal .f32)) = _
    rw [one_word]
    exact if_congr (mask_iff c j l) rfl rfl
  unfold k0_pay1
  rw [cast_self]
  show v (ix2 i l) * broadcastTo S1024x512 _ _ (ix2 i l) = _
  congr 1
  have hb : ∀ (w : Rows 1) (h : S1x512.Broadcasts S1024x512), broadcastTo S1024x512 w h (ix2 i l) = w (ix2 (0 : Fin 1) l) := fun w h =>
    congrArg w (funext fun a => by
      match a with
      | ⟨0, _⟩ => rfl
      | ⟨1, _⟩ => rfl)
  rw [hb]
  refine (colProd_one _ l).trans ?_
  repeat rw [colProd_halves (by rfl)]
  exact Finset.prod_congr rfl fun j _ => hm j

/-! ## The whole array -/

/-- Row `k` of the whole array, ones past its end. -/
def rowOf (X : Rows 8192) (k : ℕ) (l : Fin 512) : EReal := if h : k < 8192 then X (ix2 ⟨k, h⟩ l) else 1

/-- The products of `n` rows, block by block of 1024. -/
theorem blocks_prod (f : ℕ → EReal) (n : ℕ) : ∏ j ∈ Finset.range n, ∏ k ∈ Finset.range 1024, f (1024 * j + k) = ∏ k ∈ Finset.range (1024 * n), f k := by
  induction n with
  | zero => rfl
  | succ n ih => rw [Finset.prod_range_succ, ih, Nat.mul_succ, Finset.prod_range_add]

/-- A product over the devices before `c`. -/
theorem before_prod (f : ℕ → EReal) (c : Fin 8) : (∏ j : Fin 8, if j < c then f j else 1) = ∏ j ∈ Finset.range c, f j := by
  rw [Finset.prod_range]
  have h := Fin.prod_univ_eq_prod_range (fun j => if j < c.val then f j else 1) 8
  refine (Eq.trans ?_ h).trans ?_
  · rfl
  · rw [← Finset.prod_range (fun j => f j), ← Finset.prod_filter]
    refine Finset.prod_congr (Finset.ext fun j => ?_) fun _ _ => rfl
    have := c.isLt
    simp only [Finset.mem_filter, Finset.mem_range]
    omega

/-- Where each device's block is block `c` of `X`, row `i` of device `c`'s result is the product of the rows of `X` up to row
    `1024 c + i`. -/
theorem out_at (xs : Dev nD → Rows 1024) (X : Rows 8192) (g : Rows 8)
    (hx : ∀ (c : Dev nD) (i : Fin 1024) (l : Fin 512), xs c (ix2 i l) = rowOf X (1024 * c.val + i.val) l)
    (hg : ∀ (j : Fin 8) (l : Fin 512), g (ix2 j l) = k0_pay3 (F := Ideal) (k0_pay2 (xs j)) (ix2 (0 : Fin 1) l)) (c : Dev nD) (i : Fin 1024) (l : Fin 512) :
    k0_pay1 (F := Ideal) g (k0_pay5 (myW c)) (k0_pay4 (F := Ideal) (k0_pay2 (xs c))) (ix2 i l) = ∏ k ∈ Finset.range (1024 * c.val + i.val + 1), rowOf X k l := by
  rw [pay1_at, pay2_eq, pay4_at (xs c) (fun k l => rowOf X (1024 * c.val + k) l) (hx c)]
  have ht : ∀ j : Fin 8, g (ix2 j l) = ∏ k ∈ Finset.range 1024, rowOf X (1024 * j.val + k) l := fun j => by
    rw [hg, pay2_eq, pay3_at]
    unfold colProd
    rw [Finset.prod_range]
    exact Finset.prod_congr rfl fun r _ => hx j r l
  simp only [ht]
  rw [before_prod (fun j => ∏ k ∈ Finset.range 1024, rowOf X (1024 * j + k) l) c, blocks_prod (fun k => rowOf X k l), mul_comm,
    ← Finset.prod_range_add, Nat.add_assoc]

end Cert.Prefix

end
-- ==== Proof.Scan.lean ====
/-
The reference's result in exact arithmetic: after its trips, row `i` is the product of the rows up to `i`.
-/
module

public import proofs.«01_k».proof.Proof.Products
public import proofs.«01_k».proof.Proof.Gen.ReferenceIdeal.Run
public import Idealize.ShloMosaic.Lib.DynamicIndex

@[expose] public section

set_option maxRecDepth 16384

noncomputable section

namespace Cert.Prefix.Scan

open Cert.ReferenceIdeal Cert.ReferenceIdeal.Gen Cert.ReferenceIdeal.Value

open Idealize.ShloMosaic
open Idealize.ShloMosaic.TcCoe
open Idealize.ShloMosaic.StableHlo
open Idealize.SL.Sem

/-- The starts of the trip's slice and of its update: the counter's row, the first column. -/
abbrev startOf (w : IVec S_ 32) (a : Fin 2) : Int := ((![w, constantI S_ 32 0#32] : Fin 2 → IVec S_ 32) a (Shape.Idx.first h_S_)).toInt

/-- At a counter below the array's end they are the counter and zero. -/
theorem startOf_eq (k : ℕ) (hk : k < 8192) (a : Fin 2) : startOf (fun _ => BitVec.ofNat 32 k) a = ((![k, 0] : Fin 2 → ℕ) a : Int) := by
  match a with
  | ⟨0, _⟩ => exact toInt_ofNat_of_lt (by omega)
  | ⟨1, _⟩ => rfl

/-- The row at the counter lies in the array. -/
theorem start_fits (k : ℕ) (hk : k < 8192) : S8192x512.Slices ![k, 0] S1x512 :=
  ⟨rfl, fun a => by
    match a with
    | ⟨0, _⟩ => exact hk
    | ⟨1, _⟩ => exact Nat.le_refl 512⟩

/-- The row a trip reads. -/
theorem read_row (X : FVec Ideal S8192x512 .f32) (k : ℕ) (hk : k < 8192) (l : Fin 512) :
    shapeCast S512 (Host.dynamicSlice S1x512 X (startOf fun _ => BitVec.ofNat 32 k) sliceFits_S8192x512_S1x512) shapeCasts_S1x512_S512 (ix1 l) = rowOf X k l := by
  rw [Host.dynamicSlice_eq_extractStridedSlice _ _ _ ![k, 0] _ (start_fits k hk) (startOf_eq k hk)]
  have hc : ∀ w : FVec Ideal S1x512 .f32, shapeCast S512 w shapeCasts_S1x512_S512 (ix1 l) = w (ix2 (0 : Fin 1) l) := fun w => by
    pointwise
  rw [hc, rowOf, dif_pos hk]
  exact congrArg X (funext fun a => Fin.ext (by
    match a with
    | ⟨0, _⟩ => rfl
    | ⟨1, _⟩ => exact Nat.zero_add _))

/-- What a trip writes: its row of the result, every other row as it was. -/
theorem write_row (Y : FVec Ideal S8192x512 .f32) (u : FVec Ideal S512 .f32) (k : ℕ) (hk : k < 8192) (i : Fin 8192) (l : Fin 512) :
    Host.dynamicUpdateSlice Y (broadcastInDim S1x512 ![1] bcast_S512_S1x512_1 u) (startOf fun _ => BitVec.ofNat 32 k) updateFits_S8192x512_S1x512 (ix2 i l)
      = if i.val = k then u (ix1 l) else Y (ix2 i l) := by
  rw [Host.dynamicUpdateSlice_eq_updateSlice _ _ _ _ ![k, 0] (fun a => by
    rw [startOf_eq k hk]
    match a with
    | ⟨0, _⟩ => show (min (max (k : Int) 0) ((8191 : ℕ) : Int)).toNat = k; omega
    | ⟨1, _⟩ => rfl) (start_fits k hk)]
  unfold updateSlice
  by_cases hi : i.val = k
  · rw [if_pos hi, dif_pos (fun a => by
      match a with
      | ⟨0, _⟩ => show k ≤ i.val ∧ i.val < k + 1; omega
      | ⟨1, _⟩ => show 0 ≤ l.val ∧ l.val < 0 + 512; omega)]
    exact congrArg u (funext fun a => Fin.ext (by
      match a with
      | ⟨0, _⟩ => rfl))
  · rw [if_neg hi, dif_neg (fun h => by
      have h0 : k ≤ i.val ∧ i.val < k + 1 := h 0
      omega)]

variable (m : (ℓ : Loc nD τ sig) → Buf (Elt Ideal) ℓ) (c : Dev nD)

/-- The carried buffers before trip `k`: the argument, the counter at `k`, the product of the first `k` rows, and the first `k`
    rows of the result. -/
structure At (X : FVec Ideal S8192x512 .f32) (k : ℕ) (V : Valuation τ sig (Elt Ideal)) : Prop where
  arg : V (Proc.devRef .tc main_v2_0) = X
  ctr : V (Proc.devRef .tc main_v2_1) = fun _ => BitVec.ofNat 32 k
  carry : ∀ l : Fin 512, V (Proc.devRef .tc main_v2_2) (ix1 l) = ∏ j ∈ Finset.range k, rowOf X j l
  rows : ∀ (i : Fin 8192) (l : Fin 512), i.val < k → V (Proc.devRef .tc main_v2_3) (ix2 i l) = ∏ j ∈ Finset.range (i.val + 1), rowOf X j l

variable {X : FVec Ideal S8192x512 .f32} {k : ℕ} {V : Valuation τ sig (Elt Ideal)}

/-- The product a trip forms. -/
theorem At.next (h : At X k V) (hk : k < 8192) (l : Fin 512) : res_main_while0b_v4 V (ix1 l) = ∏ j ∈ Finset.range (k + 1), rowOf X j l := by
  unfold res_main_while0b_v4
  rw [h.arg, h.ctr]
  refine (mulf_at _ _ _).trans ?_
  rw [h.carry, Finset.prod_range_succ]
  exact congrArg _ (read_row X k hk l)

/-- One trip. -/
theorem At.step (h : At X k V) (hk : k < 8192) : At X (k + 1) (STEP V) where
  arg := (STEP_main_v2_0 V).trans h.arg
  ctr := by
    rw [STEP_main_v2_1]
    unfold step_main_v2_1
    rw [h.ctr]
    exact funext fun _ => (BitVec.ofNat_add k 1).symm
  carry := fun l => by
    rw [STEP_main_v2_2]
    exact h.next hk l
  rows := fun i l hi => by
    rw [STEP_main_v2_3]
    unfold step_main_v2_3
    rw [h.ctr]
    refine (write_row _ _ k hk i l).trans ?_
    by_cases hik : i.val = k
    · rw [if_pos hik, hik]
      exact h.next hk l
    · rw [if_neg hik]
      exact h.rows i l (by omega)

/-- The buffers at the loop's entry. -/
theorem entry : At (m ((c.tc : Thread nD τ).loc main_arg0)) 0 (entryContents preI m c) where
  arg := by
    simp only [entryContents, afterL_cons, afterL_nil]
    after_reads_simp
    rfl
  ctr := ctr_entry m c
  carry := fun l => by
    have h : entryContents preI m c (Proc.devRef .tc main_v2_2) = fun _ => (Ideal.ofBits .f32 0x3F800000#32 : EReal) := by
      simp only [entryContents, afterL_cons, afterL_nil]
      after_reads_simp
      rfl
    rw [h, Finset.range_zero, Finset.prod_empty]
    exact Ideal.ofBits_one_f32
  rows := fun i l hi => absurd hi (Nat.not_lt_zero _)

/-- The buffers before each trip, and after the last. -/
theorem at_trip : ∀ k, k ≤ 8192 → At (m ((c.tc : Thread nD τ).loc main_arg0)) k (STEP^[k] (entryContents preI m c))
  | 0, _ => entry m c
  | k + 1, hk => by
    rw [Function.iterate_succ_apply']
    exact (at_trip k (by omega)).step hk

/-- The result: row `i` is the product of the argument's rows up to row `i`. -/
theorem result_at (i : Fin 8192) (l : Fin 512) : (STEP^[8192] (entryContents preI m c)) (Proc.devRef .tc main_v2_3) (ix2 i l)
    = ∏ j ∈ Finset.range (i.val + 1), rowOf (m ((c.tc : Thread nD τ).loc main_arg0)) j l :=
  (at_trip m c 8192 (Nat.le_refl _)).rows i l i.isLt

end Cert.Prefix.Scan

end
-- ==== Proof.Result.lean ====
/-
What the launch leaves in each device's result, of its argument.
-/
module

public import proofs.«01_k».proof.Proof.Scan

@[expose] public section

set_option maxRecDepth 16384

noncomputable section

namespace Cert.Prefix

open Cert.KernelIdeal Cert.KernelIdeal.Gen

open Idealize.ShloMosaic
open Idealize.ShloMosaic.TcCoe
open Idealize.SL.Sem

section
variable {F : FTy → Type} [FloatOps F] (m : (ℓ : Loc nD τ sig) → Buf (Elt F) ℓ) (ρ : Dev nD → PrngReg)

/-- What the body reads is the whole argument. -/
theorem xstg_eq (c : Dev nD) : xstg m ρ c = m ((c : Thread nD τ).loc main_arg0) := by
  have hz : (fun a => (win0_0.index (0 : Fin 1)) a * main_arg0.ty.shape.size a) = fun _ => 0 := funext fun a => by fin_cases a <;> decide
  exact Memref.read_access_unit_zero (Elt F) main_arg0 hz (fun a => by fin_cases a <;> decide) _

/-- The result array ends as the body's product. -/
theorem finalA_out (c : Dev nD) : finalA m ρ c (1 : Fin 2) = outAt m ρ c := by
  have hz : (fun a => (win0_1.index (0 : Fin 1)) a * main_v1.ty.shape.size a) = fun _ => 0 := funext fun a => by fin_cases a <;> decide
  have hw := Memref.read_access_unit_zero (Elt F) main_v1 hz (fun a => by fin_cases a <;> decide) (finalA m ρ c (1 : Fin 2))
  refine hw.symm.trans ?_
  unfold finalA
  rw [show cfg0.N = ((0 : Fin 1) : Fin cfg0.N).val + 1 from rfl, (dats m ρ 0 c).arrAt_succ (1 : Fin 2) (0 : Fin 1), if_pos (by decide)]
  exact View.read_write_univ _ _

end

/-- Where the devices' arguments are the blocks of one array, row `i` of device `c`'s result is the product of the array's rows up
    to row `1024 c + i`. -/
theorem outAt_at (m : (ℓ : Loc nD τ sig) → Buf (Elt Ideal) ℓ) (ρ : Dev nD → PrngReg) (X : FVec Ideal ⟨2, ![8192, 512]⟩ .f32)
    (hX : ∀ c : Dev nD, m ((c.tc : Thread nD τ).loc main_arg0) = Layout.block ⟨2, ![1024, 512]⟩ ⟨2, ![8192, 512]⟩ 0 8 c X) (c : Dev nD) (i : Fin 1024) (l : Fin 512) :
    outAt m ρ c (ix2 i l) = ∏ k ∈ Finset.range (1024 * c.val + i.val + 1), rowOf X k l := by
  refine out_at (fun c => xstg m ρ c) X (allTot m ρ) (fun c i l => ?_) (fun j l => rfl) c i l
  have hlt : 1024 * c.val + i.val < 8192 := by have := c.isLt; have : c.val < 8 := this; have := i.isLt; omega
  show xstg m ρ c (ix2 i l) = _
  rw [xstg_eq, rowOf, dif_pos hlt]
  refine (congrFun (hX c) (ix2 i l)).trans (congrArg X (funext fun a => Fin.ext ?_))
  match a with
  | ⟨0, _⟩ => show c.val * 1024 + i.val = _; rw [Nat.mul_comm]; rfl
  | ⟨1, _⟩ => rfl

end Cert.Prefix

end
-- ==== Proof.lean ====
/-
The claims: the kernel, read at bit patterns and in exact arithmetic, and the reference run to their end with their arguments
unchanged and every semaphore at zero; and in exact arithmetic the devices' results are the blocks of the reference's result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Result
public import Idealize.ShloMosaic.Lib.Quiescent
public import Idealize.ShloMosaic.Adequacy
public import Idealize.ShloMosaic.Init

@[expose] public section

noncomputable section

set_option maxRecDepth 16384

namespace Cert.Proof

open Idealize.ShloMosaic Idealize.SL.Sem

section Same

variable {F : FTy → Type} [FloatOps F]

/-- The two programs' bodies are one text, read over the same float values. -/
theorem bodies_same : Cert.Kernel.defs₀ (F := F) = Cert.KernelIdeal.defs₀ (F := F) := by
  unfold Cert.Kernel.defs₀ Cert.KernelIdeal.defs₀
  refine congrArg Defs.onTc (funext fun l => funext fun x => ?_)
  match l, x with
  | 0, (t, s) => rfl

/-- So are the programs. -/
theorem defs_same : Cert.Kernel.defs (F := F) = Cert.KernelIdeal.defs (F := F) := congrArg (Pipeline.defs Cert.KernelIdeal.pcfgs) bodies_same

end Same

/-- For any float values the kernel ends with its arguments unchanged and every semaphore at zero. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)) ∧ r.2.sem = fun _ => 0) :=
  (θ_run Cert.KernelIdeal.defs _ _).mono (fun _ h => ⟨fun c => (h.1 c 0).trans (Cert.Prefix.finalA_x m ρ c), h.2⟩) (Cert.Prefix.run_main m ρ)

/-- The kernel at bit patterns: its text is the other program's, so the one run gives both frames. -/
theorem frame_kernel : Cert.quiescent_Kernel := fun m ρ _ => by
  rw [defs_same]
  exact frame_any (F := Bits) m ρ

/-- The kernel in exact arithmetic. -/
theorem frame_ideal : Cert.quiescent_KernelIdeal := fun m ρ _ => frame_any (F := Ideal) m ρ

/-- The reference, which has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- In exact arithmetic each device's result is its block of the reference's: both are, at each entry, the product of the
    argument's rows up to that entry's row. -/
theorem value : Cert.algebraic_KernelIdeal_ReferenceIdeal := fun m ρ m' ρ' _ hX => by
  refine ⟨_, (θ_run Cert.KernelIdeal.defs _ _).mono (fun _ h c => ⟨((h.1 c 1).trans (Cert.Prefix.finalA_out m ρ c)).trans ?_, (h.1 c 0).trans (Cert.Prefix.finalA_x m ρ c)⟩)
      (Cert.Prefix.run_main (F := Ideal) m ρ),
    (θ_run Cert.ReferenceIdeal.defs _ _).mono (fun _ h => h 0) (Cert.ReferenceIdeal.Value.run (F := Ideal) m' ρ')⟩
  funext i
  rw [eq_ix2 i]
  refine (Cert.Prefix.outAt_at m ρ _ hX c (i 0) (i 1)).trans ?_
  have hlt : c.val * 1024 + (i 0).val < 8192 := by
    have hc : c.val < 8 := c.isLt
    have hi : (i 0).val < 1024 := (i 0).isLt
    omega
  have hr := Cert.Prefix.Scan.result_at m' 0 ⟨c.val * 1024 + (i 0).val, hlt⟩ (i 1)
  rw [Nat.mul_comm]
  refine hr.symm.trans (congrArg _ (funext fun a => Fin.ext ?_))
  match a with
  | ⟨0, _⟩ => rfl
  | ⟨1, _⟩ => rfl

/-- The certificate. -/
theorem claim : Cert.Claim :=
  ⟨Cert.Kernel.Gen.facts, Cert.KernelIdeal.Gen.facts, Cert.ReferenceIdeal.Gen.facts, frame_kernel, frame_ideal, frame_reference, trivial, value⟩

end Cert.Proof

end
